-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096x2 : Shape := ⟨2, ![4096, 2]⟩
abbrev S33279x128 : Shape := ⟨2, ![33279, 128]⟩
abbrev S256x100 : Shape := ⟨2, ![256, 100]⟩
abbrev S100 : Shape := ⟨1, ![100]⟩
abbrev S100x33279 : Shape := ⟨2, ![100, 33279]⟩
abbrev S33279 : Shape := ⟨1, ![33279]⟩
abbrev S_ : Shape := ⟨0, ![]⟩

class Facts : Prop where
  bcast_S_S4096x2 : S_.BroadcastsInDim S4096x2 (![] : Fin 0 → Fin S4096x2.rank)
  reducesTo_S4096x2_S_d0_1 : S4096x2.ReducesTo [0, 1] S_
  h_S_ : 0 < S_.numel

variable [Facts]

def fn {F : FTy → Type} [FloatOps F] (main_arg0 : IVec S4096x2 32) (main_arg1 : FVec F S33279x128 .f32) (main_arg2 : FVec F S256x100 .f32) (main_arg3 : FVec F S100 .f32) (main_arg4 : FVec F S100x33279 .f32) (main_arg5 : FVec F S33279 .f32) : IVec S_ 1 :=
  let main_c : IVec S_ 32 := constantI S_ 32 0#32
  let main_v0 : IVec S4096x2 32 := broadcastInDim S4096x2 ![] bcast_S_S4096x2 main_c
  let main_v1 : IVec S4096x2 1 := cmpi .sge main_arg0 main_v0
  let main_c_0 : IVec S_ 32 := constantI S_ 32 33279#32
  let main_v2 : IVec S4096x2 32 := broadcastInDim S4096x2 ![] bcast_S_S4096x2 main_c_0
  let main_v3 : IVec S4096x2 1 := cmpi .slt main_arg0 main_v2
  let main_v4 : IVec S4096x2 1 := andi main_v1 main_v3
  let main_c_1 : IVec S_ 1 := constantI S_ 1 1#1
  let main_v5 : IVec S_ 1 := (fun x v => Host.reduce IntOp.andi x v reducesTo_S4096x2_S_d0_1 h_S_) main_v4 main_c_1
  main_v5
-- ==== Kernel.lean ====
abbrev S4096x2 : Shape := ⟨2, ![4096, 2]⟩
abbrev S33279x128 : Shape := ⟨2, ![33279, 128]⟩
abbrev S256x100 : Shape := ⟨2, ![256, 100]⟩
abbrev S100 : Shape := ⟨1, ![100]⟩
abbrev S100x33279 : Shape := ⟨2, ![100, 33279]⟩
abbrev S33279 : Shape := ⟨1, ![33279]⟩
abbrev S8192 : Shape := ⟨1, ![8192]⟩
abbrev S64x128 : Shape := ⟨2, ![64, 128]⟩
abbrev S8192x128 : Shape := ⟨2, ![8192, 128]⟩
abbrev S2x128 : Shape := ⟨2, ![2, 128]⟩
abbrev S256x128 : Shape := ⟨2, ![256, 128]⟩
abbrev S_ : Shape := ⟨0, ![]⟩
abbrev S128x128 : Shape := ⟨2, ![128, 128]⟩
abbrev S1x128 : Shape := ⟨2, ![1, 128]⟩
abbrev S128 : Shape := ⟨1, ![128]⟩
abbrev S4096x256 : Shape := ⟨2, ![4096, 256]⟩
abbrev S1x100 : Shape := ⟨2, ![1, 100]⟩
abbrev S1x33279 : Shape := ⟨2, ![1, 33279]⟩
abbrev S4096x33279 : Shape := ⟨2, ![4096, 33279]⟩
abbrev S100x1024 : Shape := ⟨2, ![100, 1024]⟩
abbrev S1x1024 : Shape := ⟨2, ![1, 1024]⟩
abbrev S4096x1024 : Shape := ⟨2, ![4096, 1024]⟩
abbrev S4096x100 : Shape := ⟨2, ![4096, 100]⟩

abbrev nBuf : Table → Nat
  | .hbm => 14
  | .local .tc .vmem => 10
  | .local .scVector .vmem => 2
  | _ => 0

abbrev bufTy : (tb : Table) → Fin (nBuf tb) → BufTy
  | .hbm, ⟨0, _⟩ => ⟨S4096x2, .i32⟩
  | .hbm, ⟨1, _⟩ => ⟨S33279x128, .f32⟩
  | .hbm, ⟨2, _⟩ => ⟨S256x100, .f32⟩
  | .hbm, ⟨3, _⟩ => ⟨S100, .f32⟩
  | .hbm, ⟨4, _⟩ => ⟨S100x33279, .f32⟩
  | .hbm, ⟨5, _⟩ => ⟨S33279, .f32⟩
  | .hbm, ⟨6, _⟩ => ⟨S8192, .i32⟩
  | .hbm, ⟨7, _⟩ => ⟨S64x128, .i32⟩
  | .hbm, ⟨8, _⟩ => ⟨S8192x128, .f32⟩
  | .hbm, ⟨9, _⟩ => ⟨S4096x256, .f32⟩
  | .hbm, ⟨10, _⟩ => ⟨S1x100, .f32⟩
  | .hbm, ⟨11, _⟩ => ⟨S100x33279, .bf16⟩
  | .hbm, ⟨12, _⟩ => ⟨S1x33279, .f32⟩
  | .hbm, ⟨13, _⟩ => ⟨S4096x33279, .f32⟩
  | .local .tc .vmem, ⟨0, _⟩ => ⟨S4096x256, .f32⟩
  | .local .tc .vmem, ⟨1, _⟩ => ⟨S256x100, .f32⟩
  | .local .tc .vmem, ⟨2, _⟩ => ⟨S1x100, .f32⟩
  | .local .tc .vmem, ⟨3, _⟩ => ⟨S100x1024, .bf16⟩
  | .local .tc .vmem, ⟨4, _⟩ => ⟨S100x1024, .bf16⟩
  | .local .tc .vmem, ⟨5, _⟩ => ⟨S1x1024, .f32⟩
  | .local .tc .vmem, ⟨6, _⟩ => ⟨S1x1024, .f32⟩
  | .local .tc .vmem, ⟨7, _⟩ => ⟨S4096x1024, .f32⟩
  | .local .tc .vmem, ⟨8, _⟩ => ⟨S4096x1024, .f32⟩
  | .local .tc .vmem, ⟨9, _⟩ => ⟨S4096x100, .bf16⟩
  | .local .scVector .vmem, ⟨0, _⟩ => ⟨S2x128, .i32⟩
  | .local .scVector .vmem, ⟨1, _⟩ => ⟨S256x128, .f32⟩
  | _, _ => ⟨S4096x2, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_arg1_scv : Ref sig .scVector := ⟨.hbm, 1, rfl⟩
abbrev main_v1_scv : Ref sig .scVector := ⟨.hbm, 7, rfl⟩
abbrev main_v2_scv : Ref sig .scVector := ⟨.hbm, 8, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg3_1 : Ref sig .tc := ⟨.vmem, 4, rfl⟩
abbrev cc1_stg4_0 : Ref sig .tc := ⟨.vmem, 5, rfl⟩
abbrev cc1_stg4_1 : Ref sig .tc := ⟨.vmem, 6, rfl⟩
abbrev cc1_stg5_0 : Ref sig .tc := ⟨.vmem, 7, rfl⟩
abbrev cc1_stg5_1 : Ref sig .tc := ⟨.vmem, 8, rfl⟩
abbrev cc1_scratch0 : Ref sig .tc := ⟨.vmem, 9, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem2_0 : DmaSem sig := 5
abbrev cc1_sem3_0 : DmaSem sig := 6
abbrev cc1_sem3_1 : DmaSem sig := 7
abbrev cc1_sem4_0 : DmaSem sig := 8
abbrev cc1_sem4_1 : DmaSem sig := 9
abbrev cc1_sem5_0 : DmaSem sig := 10
abbrev cc1_sem5_1 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_23_r0 : BitVec 32 := 0#32
  ![v2.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c128_i32_22 : BitVec 32 := 128#32
  let v19 : BitVec 32 := Scalar.muli v2 c128_i32_22
  let c0_i32_23_r1 : BitVec 32 := 0#32
  ![v19.toNat, 0]
abbrev grid1 : Pipeline.Grid := ⟨1, ![33], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S4096x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x100 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x100 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S100x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4096x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x2 : Shape := ⟨2, ![4096, 2]⟩
abbrev S33279x128 : Shape := ⟨2, ![33279, 128]⟩
abbrev S256x100 : Shape := ⟨2, ![256, 100]⟩
abbrev S100 : Shape := ⟨1, ![100]⟩
abbrev S100x33279 : Shape := ⟨2, ![100, 33279]⟩
abbrev S33279 : Shape := ⟨1, ![33279]⟩
abbrev S_ : Shape := ⟨0, ![]⟩
abbrev S4096x2x1 : Shape := ⟨3, ![4096, 2, 1]⟩
abbrev S1 : Shape := ⟨1, ![1]⟩
abbrev S1x1x1 : Shape := ⟨3, ![1, 1, 1]⟩
abbrev S4096x2x128 : Shape := ⟨3, ![4096, 2, 128]⟩
abbrev S4096x256 : Shape := ⟨2, ![4096, 256]⟩
abbrev S4096x100 : Shape := ⟨2, ![4096, 100]⟩
abbrev S1x100 : Shape := ⟨2, ![1, 100]⟩
abbrev S4096x33279 : Shape := ⟨2, ![4096, 33279]⟩
abbrev S1x33279 : Shape := ⟨2, ![1, 33279]⟩

abbrev nBuf : Space → Nat
  | .hbm => 39
  | .vmem => 0
  | .smem => 0
  | _ => 0

abbrev bufTy : (tb : Table) → Fin (tcTables nBuf tb) → BufTy
  | .hbm, ⟨0, _⟩ => ⟨S4096x2, .i32⟩
  | .hbm, ⟨1, _⟩ => ⟨S33279x128, .f32⟩
  | .hbm, ⟨2, _⟩ => ⟨S256x100, .f32⟩
  | .hbm, ⟨3, _⟩ => ⟨S100, .f32⟩
  | .hbm, ⟨4, _⟩ => ⟨S100x33279, .f32⟩
  | .hbm, ⟨5, _⟩ => ⟨S33279, .f32⟩
  | .hbm, ⟨6, _⟩ => ⟨S_, .i32⟩
  | .hbm, ⟨7, _⟩ => ⟨S4096x2, .i32⟩
  | .hbm, ⟨8, _⟩ => ⟨S4096x2, .i1⟩
  | .hbm, ⟨9, _⟩ => ⟨S_, .i32⟩
  | .hbm, ⟨10, _⟩ => ⟨S4096x2, .i32⟩
  | .hbm, ⟨11, _⟩ => ⟨S4096x2, .i32⟩
  | .hbm, ⟨12, _⟩ => ⟨S4096x2, .i32⟩
  | .hbm, ⟨13, _⟩ => ⟨S4096x2x1, .i32⟩
  | .hbm, ⟨14, _⟩ => ⟨S1, .i32⟩
  | .hbm, ⟨15, _⟩ => ⟨S_, .i32⟩
  | .hbm, ⟨16, _⟩ => ⟨S4096x2x1, .i32⟩
  | .hbm, ⟨17, _⟩ => ⟨S4096x2x1, .i1⟩
  | .hbm, ⟨18, _⟩ => ⟨S1x1x1, .i32⟩
  | .hbm, ⟨19, _⟩ => ⟨S4096x2x1, .i32⟩
  | .hbm, ⟨20, _⟩ => ⟨S4096x2x1, .i1⟩
  | .hbm, ⟨21, _⟩ => ⟨S4096x2x1, .i1⟩
  | .hbm, ⟨22, _⟩ => ⟨S_, .i1⟩
  | .hbm, ⟨23, _⟩ => ⟨S4096x2, .i1⟩
  | .hbm, ⟨24, _⟩ => ⟨S4096x2x128, .f32⟩
  | .hbm, ⟨25, _⟩ => ⟨S4096x2x128, .i1⟩
  | .hbm, ⟨26, _⟩ => ⟨S_, .f32⟩
  | .hbm, ⟨27, _⟩ => ⟨S4096x2x128, .f32⟩
  | .hbm, ⟨28, _⟩ => ⟨S4096x2x128, .f32⟩
  | .hbm, ⟨29, _⟩ => ⟨S4096x256, .f32⟩
  | .hbm, ⟨30, _⟩ => ⟨S4096x100, .f32⟩
  | .hbm, ⟨31, _⟩ => ⟨S1x100, .f32⟩
  | .hbm, ⟨32, _⟩ => ⟨S4096x100, .f32⟩
  | .hbm, ⟨33, _⟩ => ⟨S4096x100, .f32⟩
  | .hbm, ⟨34, _⟩ => ⟨S4096x100, .f32⟩
  | .hbm, ⟨35, _⟩ => ⟨S4096x33279, .f32⟩
  | .hbm, ⟨36, _⟩ => ⟨S1x33279, .f32⟩
  | .hbm, ⟨37, _⟩ => ⟨S4096x33279, .f32⟩
  | .hbm, ⟨38, _⟩ => ⟨S4096x33279, .f32⟩
  | _, _ => ⟨S4096x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩

abbrev nD : Nat := 1
abbrev τ : Topo := Topo.v7x

variable {F : FTy → Type} [FloatOps F]
-- ==== Proof.GatherBatch.lean ====
/-
  Several row gathers outstanding on ONE semaphore. Each row of each gather is one transfer of a batch: every row credits
  the same amount `N`, and the batch's rows are handed back together once all of its units have been waited for. A wait
  in between hands nothing back. The issue of one gather takes the next rows of the batch (`wp_gatherBatch`); what a row
  delivers is `rowDone`, and all rows of one gather joined are its destination written with the gathered rows, the
  source's share and the offset list's share (`rowDone_join`).
-/
module

public import Idealize.ShloMosaic.Lib.SparseCore.Stream
public import Idealize.ShloMosaic.Lib.Batch
public import Idealize.ShloMosaic.Lib.Tactic

@[expose] public section

noncomputable section

namespace Cert.Proof.GatherBatch

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Idealize.SL.ExclCount (count)
open Idealize.ShloMosaic.Transfers (Batch batchBody pending)

variable {nD : Nat} {τ : Topo} {sig : RefSig} {Ix : Type} [DecidableEq Ix]
variable {F : FTy → Type} {Name : Type} [DecidableEq Name]
variable {U : Type} [URA U] {Lvl : Type}

local notation "𝕄" => MT nD τ sig Ix (Elt F) Name U Lvl

/-! ## The issue rights of the next rows -/

/-- The rights pending from `j` are those of the next `o` transfers and those pending from `j + o`. -/
theorem pending_take {n : ℕ} (j o : ℕ) (h : j + o ≤ n) (Φ : Fin n → sProp 𝕄) :
    bigSep (pending j) Φ = iprop(bigSep Finset.univ (fun k : Fin o => Φ ⟨j + k.val, by omega⟩) ∗ bigSep (pending (j + o)) Φ) := by
  classical
  let e : Fin o ↪ Fin n := ⟨fun k => ⟨j + k.val, by omega⟩, fun a b hab => Fin.ext (by have := Fin.ext_iff.mp hab; simp at this; omega)⟩
  have hv : ∀ k : Fin o, (e k).val = j + k.val := fun _ => rfl
  clear_value e
  have hset : pending (n := n) j = Finset.univ.map e ∪ pending (j + o) := by
    ext t
    simp only [pending, Finset.mem_filter, Finset.mem_univ, _root_.true_and, Finset.mem_union, Finset.mem_map]
    constructor
    · intro ht
      by_cases h' : j + o ≤ t.val
      · exact .inr h'
      · exact .inl ⟨⟨t.val - j, by omega⟩, Fin.ext (by rw [hv]; simp only []; omega)⟩
    · rintro (⟨k, rfl⟩ | ht)
      · rw [hv]; omega
      · omega
  have hdis : Disjoint (Finset.univ.map e) (pending (n := n) (j + o)) := by
    rw [Finset.disjoint_left]
    intro t ht ht'
    obtain ⟨k, -, rfl⟩ := Finset.mem_map.mp ht
    simp only [pending, Finset.mem_filter, Finset.mem_univ, _root_.true_and, hv] at ht'
    have hk := k.isLt
    omega
  rw [hset, BI.bigSep_union hdis, BI.bigSep_map]
  exact congrArg (fun X => iprop(X ∗ bigSep (pending (j + o)) Φ)) (BI.bigSep_congr fun k _ => congrArg Φ (Fin.ext (hv k)))

/-! ## One gather's rows -/

section Rule

variable {Λ : Labels} (c : Thread nD τ) {sp : Space} {s₀ s si : Shape} {e : EltTy} {a : Nat}

/-- Row `j` of what a gather moves: the source's row that `r` names. -/
def gatherRows (src : Memref sig c.2.kind sp s₀ e) (hg : s₀.Gathers a s) (fs : Buf (Elt F) (src.view.loc c))
    (r : Fin (s.size hg.axis') → Fin (s₀.size hg.axis)) (j : Fin (s.size hg.axis')) : (s.rowShape hg.axis').Idx → Elt F e :=
  fun i => src.view.read (Elt F) fs (hg.rowIdx (r j) i)

/-- What row `j` of a gather delivers: the destination's row written with the source's row the list names there, the
    list's entry and the row's piece of the source's share. -/
def rowDone (src : Memref sig c.2.kind sp s₀ e) (dst : Memref sig c.2.kind .vmem s e) (hg : s₀.Gathers a s)
    (offs : Memref sig c.2.kind .vmem si .i32) (hn : si.numel = s.size hg.axis') (sem : DmaSem sig)
    (hsrc : src.view.WordExact) (he : e.bits = 32) (hsp : sp = .hbm ∨ sp = .shared) (hr : s₀.StreamRows a)
    (ho : 0 < s.size hg.axis') (q qo : PosShare TreeShare)
    (fs : Buf (Elt F) (src.view.loc c)) (fd : Buf (Elt F) (dst.view.loc c)) (fo : Buf (Elt F) (offs.view.loc c))
    (r : Fin (s.size hg.axis') → Fin (s₀.size hg.axis)) (j : Fin (s.size hg.axis')) : sProp 𝕄 :=
  iprop(((dst.view.loc c ↦[(dst.view.slice (s.rowRect hg.axis' j)).set]{fullShare}
        ((dst.view.slice (s.rowRect hg.axis' j)).write (Elt F) fd (gatherRows c src hg fs r j) Finset.univ))
      ∗ (Stream.issued (nD := nD) (τ := τ) c offs.view hn sem
          (fun j w => (rowOf (s₀.size hg.axis) w).map (gatherRow c src dst hg sem hsrc he hsp hr j)) 0).heldEntry qo fo j)
    ∗ (src.view.loc c ↦[src.view.set]{pieceOf q _ ho j} fs))

instance rowDone_storable (src : Memref sig c.2.kind sp s₀ e) (dst : Memref sig c.2.kind .vmem s e) (hg : s₀.Gathers a s)
    (offs : Memref sig c.2.kind .vmem si .i32) (hn : si.numel = s.size hg.axis') (sem : DmaSem sig)
    (hsrc : src.view.WordExact) (he : e.bits = 32) (hsp : sp = .hbm ∨ sp = .shared) (hr : s₀.StreamRows a)
    (ho : 0 < s.size hg.axis') (q qo : PosShare TreeShare)
    (fs : Buf (Elt F) (src.view.loc c)) (fd : Buf (Elt F) (dst.view.loc c)) (fo : Buf (Elt F) (offs.view.loc c))
    (r : Fin (s.size hg.axis') → Fin (s₀.size hg.axis)) (j : Fin (s.size hg.axis')) :
    Storable (upEmb : UEmb _ 𝕄) (rowDone (F := F) c src dst hg offs hn sem hsrc he hsp hr ho q qo fs fd fo r j : sProp 𝕄) := by
  unfold rowDone Stream.heldEntry; infer_instance

/-- All the rows of one gather are its destination written with the gathered rows, the source's share and the list's. -/
theorem rowDone_join (src : Memref sig c.2.kind sp s₀ e) (dst : Memref sig c.2.kind .vmem s e) (hg : s₀.Gathers a s)
    (offs : Memref sig c.2.kind .vmem si .i32) (hn : si.numel = s.size hg.axis') (sem : DmaSem sig)
    (hsrc : src.view.WordExact) (he : e.bits = 32) (hsp : sp = .hbm ∨ sp = .shared) (hr : s₀.StreamRows a)
    (ho : 0 < s.size hg.axis') (q qo : PosShare TreeShare)
    (fs : Buf (Elt F) (src.view.loc c)) (fd : Buf (Elt F) (dst.view.loc c)) (fo : Buf (Elt F) (offs.view.loc c))
    (r : Fin (s.size hg.axis') → Fin (s₀.size hg.axis)) :
    bigSep Finset.univ (fun j => rowDone (F := F) c src dst hg offs hn sem hsrc he hsp hr ho q qo fs fd fo r j)
      ⊢ (iprop((dst.view.loc c ↦[dst.view.set]{fullShare}
              (dst.view.write (Elt F) fd (gatherPayload hg (src.view.read (Elt F) fs) r) Finset.univ))
            ∗ (src.view.loc c ↦[src.view.set]{q} fs) ∗ (offs.view.loc c ↦[offs.view.set]{qo} fo)) : sProp 𝕄) := by
  unfold rowDone
  iintro HD
  ihave H1 := Transfers.bigSep_sep_out _ _ _ $$ HD
  icases H1 with ⟨H2, Hsrc⟩
  ihave H3 := Transfers.bigSep_sep_out _ _ _ $$ H2
  icases H3 with ⟨Hrows, Hoffs⟩
  have hW : ∀ j i, gatherRows c src hg fs r j i = gatherPayload hg (src.view.read (Elt F) fs) r ((s.rowRect hg.axis' j).emb i) :=
    fun j i => by unfold gatherRows gatherPayload; rw [Shape.Gathers.idx_rowRect_emb]
  isplitl [Hrows]
  · iapply (pointsTo_rows_write c dst.view hg.axis' fd (gatherRows c src hg fs r) _ hW) $$ Hrows
  isplitl [Hsrc]
  · iapply (Entails.of_eq (pointsTo_piecesOf (src.view.set) fs ho q).symm) $$ Hsrc
  iapply (Entails.of_eq (pointsTo_entries c offs.view (Stream.issued (nD := nD) (τ := τ) c offs.view hn sem
          (fun j w => (rowOf (s₀.size hg.axis) w).map (gatherRow c src dst hg sem hsrc he hsp hr j)) 0).entry (si.rowMajor.symm.bijective.comp (finCongr hn.symm).bijective) qo fo).symm) $$ Hoffs

variable [Preorder Lvl] {defs : Defs nD τ sig (Elt F) Λ} (EC : UEmb Counters (MT nD τ sig Ix (Elt F) Name U Lvl)) (𝒱 : Variants)
  (bd : Option 𝒱.V) {α : Type} {Q : α → sProp (MT nD τ sig Ix (Elt F) Name U Lvl)}

/-- The issue of one gather into a batch on its semaphore, `j` of the batch's transfers issued so far and `u` of its
    units waited for: holding a share of the source, the destination, a share of the list whose words are all rows of
    the source, the program goes on with the batch at `j` plus the gather's rows, each row's delivery being the batch's
    for its transfer (`hD`). -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N : ℕ) (hN : ∀ j, (dst.slice (s.rowRect hg.axis' j) (s.stride_rowRect hg.axis' j)).view.dmaCredit = N)
    (ho : 0 < s.size hg.axis') (hin : ∀ x, (offs.view.read (Elt F) fo x).toNat < s₀.size hg.axis)
    {n : ℕ} {D : Fin n → sProp 𝕄} {j u : ℕ} (hj : j + s.size hg.axis' ≤ n) (hu : u ≤ j * N)
    (hD : ∀ t : Fin (s.size hg.axis'), rowDone (F := F) c src dst hg offs hn sem hsrc he hsp hr ho q qo fs fd fo
      (rows (offs.view.read (Elt F) fo) hn hin) t ⊢ D ⟨j + t.val, by omega⟩) :
    iprop((src.view.loc c ↦[src.view.set]{q} fs) ∗ (dst.view.loc c ↦[dst.view.set]{fullShare} fd)
        ∗ (offs.view.loc c ↦[offs.view.set]{qo} fo) ∗ Batch EC c (.dma sem) ι N D j u)
      ⊢ iprop((Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hen : Function.Bijective S.entry := si.rowMajor.symm.bijective.comp (finCongr hn.symm).bijective
  have hsum : ∑ t, (dst.slice (s.rowRect hg.axis' t) (s.stride_rowRect hg.axis' t)).view.dmaCredit = s.size hg.axis' * N := by
    rw [Finset.sum_congr rfl fun t _ => hN t, Finset.sum_const, Finset.card_univ, Fintype.card_fin, smul_eq_mul]
  unfold Batch
  iintro ⟨Hs, Hd, Ho, ⟨%γ, %γ₀, %κ, #Hinv, HI, H0, Hcred⟩⟩ Hk
  ihave HI' := (Entails.of_eq (pending_take j (s.size hg.axis') hj fun t => count EC (γ t) 0)) $$ HI
  icases HI' with ⟨Hγ, HI⟩
  ihave Hd' := (Entails.of_eq (pointsTo_rows c dst.view hg.axis' fullShare fd)) $$ Hd
  ihave Ho' := (Entails.of_eq (pointsTo_entries c offs.view S.entry hen qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd hsum) $$ [Hd' Ho' Hs' Hγ]
  · have hrow : ∀ t : Fin (s.size hg.axis'), iprop(inv κ (batchBody EC (c, SemLoc.dma sem) N D γ γ₀)
          ∗ ((((dst.view.loc c ↦[(dst.view.slice (s.rowRect hg.axis' t)).set]{fullShare} fd) ∗ S.heldEntry qo fo t)
          ∗ (src.view.loc c ↦[src.view.set]{pieceOf q _ ho t} fs)) ∗ count EC (γ ⟨j + t.val, by omega⟩) 0))
        ⊢ iprop(S.heldEntry qo fo t ∗ (S.heldEntry qo fo t -∗ rowRes c (rd t))) := fun t => by
      iintro ⟨#Hinv, ⟨⟨Hr, He⟩, Hsq⟩, Hγt⟩
      isplitl [He]; · iexact He
      iintro He
      unfold rowRes
      iexists pieceOf q _ ho t, fs, iprop((dst.view.loc c ↦[(dst.view.slice (s.rowRect hg.axis' t)).set]{fullShare}
        ((dst.view.slice (s.rowRect hg.axis' t)).write (Elt F) fd (gatherRows c src hg fs r t) Finset.univ)) ∗ S.heldEntry qo fo t)
      isplitl [Hsq]; · iexact Hsq
      isplitl [Hr He]
      · iapply writeUpdate_frame
        isplitl [Hr]
        · iapply (pointsTo_writeUpdate c (v := dst.view.slice (s.rowRect hg.axis' t)) subset_rfl) $$ Hr
        · iexact He
      · rw [show (rd t).dst.view.amount (SemLoc.dma sem) = N from hN t]
        iapply (Transfers.batch_creditUpdate EC ⟨j + t.val, by omega⟩ (hD t))
        isplitr; · iexact Hinv
        iexact Hγt
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun t _ => hrow t)
    isplitr; · iexact Hinv
    iexact H3
  · iintro Hcred'
    iapply Hk
    iexists γ, γ₀, κ
    isplitr; · iexact Hinv
    isplitl [HI]; · iexact HI
    isplitl [H0]; · iexact H0
    rw [show (j + s.size hg.axis') * N - u = (j * N - u) + s.size hg.axis' * N by rw [Nat.add_mul]; omega, ← tallyAt_add]
    icombine Hcred Hcred' as H
    iexact H

end Rule

end Cert.Proof.GatherBatch

end
-- ==== Proof.Task.lean ====
/-
  The gather task of the SparseCore kernel. Thirty-two tasks, one per vector subcore: task `w` copies rows `2w` and
  `2w + 1` of the index matrix into its index scratch, starts one row gather from the table per index row on one
  semaphore, waits for both, and copies the 256 gathered rows out to rows `256w … 256w + 255` of the result. What the
  result holds then is `gathered`: row `p` is the table's row that word `p` of the index matrix names.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.GatherBatch

@[expose] public section

noncomputable section

namespace Cert.Proof.KernelIdeal

open Cert.KernelIdeal Cert.KernelIdeal.Gen
open Cert.Proof.GatherBatch
open Idealize.ShloMosaic Idealize.ShloMosaic.SparseCore
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Transfers (Batch)

variable {F : FTy → Type} [FloatOps F]

/-! ## The program's launch -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_zero : (K (F := F)).nCore 0 = 2 := rfl
theorem nSub_zero : (K (F := F)).nSub 0 = 16 := rfl

/-! ## The ghost state: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR
abbrev EC : UEmb Counters (MT nD τ sig (HIx 1) (Elt F) ℕ UU ℕ) := countersEmb

/-! ## The buffers -/

abbrev iLoc (d : Dev nD) : Loc nD τ sig := (SparseCore.T d).loc main_v1
abbrev xLoc (d : Dev nD) : Loc nD τ sig := (SparseCore.T d).loc main_arg1
abbrev oLoc (d : Dev nD) : Loc nD τ sig := (SparseCore.T d).loc main_v2

local notation "iV" => (Memref.whole Cert.KernelIdeal.main_v1_scv : Memref Cert.KernelIdeal.sig Kind.scVector Space.hbm Cert.KernelIdeal.S64x128 EltTy.i32)
local notation "xV" => (Memref.whole Cert.KernelIdeal.main_arg1_scv : Memref Cert.KernelIdeal.sig Kind.scVector Space.hbm Cert.KernelIdeal.S33279x128 EltTy.f32)
local notation "oV" => (Memref.whole Cert.KernelIdeal.main_v2_scv : Memref Cert.KernelIdeal.sig Kind.scVector Space.hbm Cert.KernelIdeal.S8192x128 EltTy.f32)
local notation "sV" => (Memref.whole Cert.KernelIdeal.cc0_scratch0 : Memref Cert.KernelIdeal.sig Kind.scVector Space.vmem Cert.KernelIdeal.S2x128 EltTy.i32)
local notation "rV" => (Memref.whole Cert.KernelIdeal.cc0_scratch1 : Memref Cert.KernelIdeal.sig Kind.scVector Space.vmem Cert.KernelIdeal.S256x128 EltTy.f32)

theorem idiv : 32 ∣ S64x128.size 0 := ⟨2, rfl⟩
theorem odiv : 32 ∣ S8192x128.size 0 := ⟨256, rfl⟩
/-- Rows `2w, 2w + 1` of the index matrix, and rows `256w … 256w + 255` of the result. -/
abbrev irow (w : Fin 32) : Rect S64x128 := Rect.part (s := S64x128) (a₀ := 0) idiv w
abbrev orow (w : Fin 32) : Rect S8192x128 := Rect.part (s := S8192x128) (a₀ := 0) odiv w
abbrev iRowSet (w : Fin 32) : Finset S64x128.Idx := ((iV).view.slice (irow w)).set
abbrev oRowSet (w : Fin 32) : Finset S8192x128.Idx := ((oV).view.slice (orow w)).set

/-! ## What is gathered -/

/-- The word of the index matrix that names the table row of result row `p`: the matrix read row by row. -/
def wordOf (ix : S64x128.Idx → BitVec 32) (p : Fin 8192) : BitVec 32 :=
  ix (Shape.pair (d := ![64, 128]) ⟨p.val / 128, by have := p.isLt; show _ < 64; omega⟩ ⟨p.val % 128, by show _ < 128; omega⟩)

/-- The gathered rows: row `p` is the table's row that word `p` names (row 0 where it names none). -/
def gathered (ix : S64x128.Idx → BitVec 32) (tab : S33279x128.Idx → F .f32) : S8192x128.Idx → F .f32 := fun p =>
  tab (Shape.pair (d := ![33279, 128])
    ⟨if (wordOf ix (p 0)).toNat < 33279 then (wordOf ix (p 0)).toNat else 0, by split <;> [assumption; decide]⟩ (p 1))

/-! ## What the handshakes carry -/

variable (ix : Dev nD → S64x128.Idx → BitVec 32) (tab : Dev nD → S33279x128.Idx → F .f32) (o₀ : Dev nD → S8192x128.Idx → F .f32)

theorem pos32 : 0 < 32 := by decide
/-- Task `w`'s share of the table. -/
abbrev xq (w : Fin 32) : PosShare TreeShare := pieceOf fullShare 32 pos32 w

abbrev iRowPts (d : Dev nD) (w : Fin 32) : sProp 𝕄 := iLoc d ↦[iRowSet w]{fullShare} ix d
abbrev xShPts (d : Dev nD) (w : Fin 32) : sProp 𝕄 := xLoc d ↦{xq w} tab d
abbrev oRowPts (d : Dev nD) (w : Fin 32) (f : S8192x128.Idx → F .f32) : sProp 𝕄 := oLoc d ↦[oRowSet w]{fullShare} f

/-- What task `w` is handed, its rows of the result at `f`. -/
abbrev taskPts (f : Dev nD → S8192x128.Idx → F .f32) (d : Dev nD) (w : Fin 32) : sProp 𝕄 :=
  iprop(iRowPts ix d w ∗ xShPts tab d w ∗ oRowPts d w (f d))

/-- The task's number at SparseCore `c`, tile `i`. -/
def taskNo (c : Fin 2) (i : Fin 16) : Fin 32 := ⟨2 * i.val + c.val, by omega⟩

/-- A SparseCore is handed what its sixteen tasks are; each task brings the same back, its rows of the result
    gathered. -/
def P : (K (F := F)).Pay (nD := nD) (Val := Elt F) (Name := ℕ) (U := UU) where
  st := fun q d c => match q with
    | 0 => bigSep Finset.univ fun i : Fin ((K (F := F)).nSub 0) => taskPts ix tab o₀ d (taskNo (Fin.cast nCore_zero c) (Fin.cast nSub_zero i))
  dn := fun q d c => match q with
    | 0 => bigSep Finset.univ fun i : Fin ((K (F := F)).nSub 0) =>
        taskPts ix tab (fun d => gathered (ix d) (tab d)) d (taskNo (Fin.cast nCore_zero c) (Fin.cast nSub_zero i))
  go := fun q d c i => match q with
    | 0 => taskPts ix tab o₀ d (taskNo (Fin.cast nCore_zero c) (Fin.cast nSub_zero i))
  td := fun q d c i => match q with
    | 0 => taskPts ix tab (fun d => gathered (ix d) (tab d)) d (taskNo (Fin.cast nCore_zero c) (Fin.cast nSub_zero i))
  x := fun _ _ => iprop(emp)

instance P_storable : (P ix tab o₀).IsStorable where
  st q d c := match q with
    | 0 => (inferInstance : BI.Storable (upEmb : UEmb _ 𝕄)
        (bigSep Finset.univ fun i : Fin ((K (F := F)).nSub 0) => taskPts ix tab o₀ d (taskNo (Fin.cast nCore_zero c) (Fin.cast nSub_zero i))))
  dn q d c := match q with
    | 0 => (inferInstance : BI.Storable (upEmb : UEmb _ 𝕄)
        (bigSep Finset.univ fun i : Fin ((K (F := F)).nSub 0) =>
          taskPts ix tab (fun d => gathered (ix d) (tab d)) d (taskNo (Fin.cast nCore_zero c) (Fin.cast nSub_zero i))))
  go q d c i := match q with
    | 0 => (inferInstance : BI.Storable (upEmb : UEmb _ 𝕄)
        (taskPts ix tab o₀ d (taskNo (Fin.cast nCore_zero c) (Fin.cast nSub_zero i))))
  td q d c i := match q with
    | 0 => (inferInstance : BI.Storable (upEmb : UEmb _ 𝕄)
        (taskPts ix tab (fun d => gathered (ix d) (tab d)) d (taskNo (Fin.cast nCore_zero c) (Fin.cast nSub_zero i))))

theorem vecSplit : (K (F := F)).VecSplit' (P ix tab o₀) 0 := by
  intro d c
  show (bigSep Finset.univ fun i : Fin ((K (F := F)).nSub 0) => taskPts ix tab o₀ d (taskNo (Fin.cast nCore_zero c) (Fin.cast nSub_zero i))) ⊢ _
  iintro H
  imodintro
  isplitl [H]; · iexact H
  iintro H
  iapply (show (bigSep Finset.univ fun i : Fin ((K (F := F)).nSub 0) => (P ix tab o₀).td 0 d c i) ⊢ (P ix tab o₀).dn 0 d c from BIBase.Entails.rfl) $$ H

/-! ## The task's memrefs -/

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev wL (L : grid0.Coords) : Fin 32 := taskNo (Fin.cast bound_zero (L 0)) (Fin.cast bound_one (L 1))
theorem wL_val : (wL L).val = 2 * (L 1).val + (L 0).val := rfl

abbrev irowK (L : grid0.Coords) : Rect S64x128 := Rect.unit (s := S64x128) (k0_off1 L) S2x128.size (k0_off1_inb L)
abbrev orowK (L : grid0.Coords) : Rect S8192x128 := Rect.unit (s := S8192x128) (k0_off2 L) S256x128.size (k0_off2_inb L)
abbrev iRowK (L : grid0.Coords) : Memref sig .scVector .hbm S2x128 .i32 := (iV).slice (irowK L) (fun _ => rfl)
abbrev oRowK (L : grid0.Coords) : Memref sig .scVector .hbm S256x128 .f32 := (oV).slice (orowK L) (fun _ => rfl)
abbrev xAllK : Memref sig .scVector .hbm S33279x128 .f32 := (xV).slice (Rect.unit (s := S33279x128) ![0, 0] S33279x128.size inb_S33279x128_S33279x128_0_0) (fun _ => rfl)
/-- The two halves of the row scratch, and the two rows of the index scratch. -/
abbrev rect0 : Rect S256x128 := Rect.unit (s := S256x128) ![0, 0] S128x128.size inb_S256x128_S128x128_0_0
abbrev rect1 : Rect S256x128 := Rect.unit (s := S256x128) ![128, 0] S128x128.size inb_S256x128_S128x128_128_0
abbrev r0K : Memref sig .scVector .vmem S128x128 .f32 := (rV).slice rect0 (fun _ => rfl)
abbrev r1K : Memref sig .scVector .vmem S128x128 .f32 := (rV).slice rect1 (fun _ => rfl)
abbrev s0K : Memref sig .scVector .vmem S128 .i32 :=
  ((sV).slice (Rect.unit (s := S2x128) ![0, 0] S1x128.size inb_S2x128_S1x128_0_0) (fun _ => rfl)).squeeze S128 squeezes_S1x128_S128
abbrev s1K : Memref sig .scVector .vmem S128 .i32 :=
  ((sV).slice (Rect.unit (s := S2x128) ![1, 0] S1x128.size inb_S2x128_S1x128_1_0) (fun _ => rfl)).squeeze S128 squeezes_S1x128_S128

theorem irowK_eq : irowK L = irow (wL L) := by
  unfold irowK irow Rect.part Rect.block
  congr 1 <;> funext a
  · rw [k0_off1_eq]
    match a with
    | 0 => simp [Shape.partIx, Shape.partSize, wL_val]; omega
    | 1 => simp [Shape.partIx, Shape.partSize]
  · match a with
    | 0 => simp [Shape.partSize]
    | 1 => simp [Shape.partSize]
theorem orowK_eq : orowK L = orow (wL L) := by
  unfold orowK orow Rect.part Rect.block
  congr 1 <;> funext a
  · rw [k0_off2_eq]
    match a with
    | 0 => simp [Shape.partIx, Shape.partSize, wL_val]; omega
    | 1 => simp [Shape.partIx, Shape.partSize]
  · match a with
    | 0 => simp [Shape.partSize]
    | 1 => simp [Shape.partSize]

theorem set_iRowK : (iRowK L).view.set = iRowSet (wL L) := by
  show ((iV).view.slice (irowK L)).set = ((iV).view.slice (irow (wL L))).set
  exact irowK_eq L ▸ rfl
theorem set_oRowK : (oRowK L).view.set = oRowSet (wL L) := by
  show ((oV).view.slice (orowK L)).set = ((oV).view.slice (orow (wL L))).set
  exact orowK_eq L ▸ rfl

theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]

/-! ## The values the task moves -/

/-- The coordinates of the elements the task's memrefs address. -/
theorem iRowK_emb (z : S2x128.Idx) : (iRowK L).view.emb z
    = Shape.pair (d := ![64, 128]) ⟨2 * (wL L).val + (z 0).val, by have := (wL L).isLt; have : (z 0).val < 2 := (z 0).isLt; show _ < 64; omega⟩ (z 1) := by
  funext a; apply Fin.ext
  show (k0_off1 L) a + 1 * (z a).val = _
  rw [k0_off1_eq]
  match a with
  | 0 => show 4 * (L 1).val + 2 * (L 0).val + 1 * (z 0).val = 2 * (wL L).val + (z 0).val; rw [wL_val]; omega
  | 1 => show 0 + 1 * (z 1).val = (z 1).val; omega
theorem oRowK_emb (z : S256x128.Idx) : (oRowK L).view.emb z
    = Shape.pair (d := ![8192, 128]) ⟨256 * (wL L).val + (z 0).val, by have := (wL L).isLt; have : (z 0).val < 256 := (z 0).isLt; show _ < 8192; omega⟩ (z 1) := by
  funext a; apply Fin.ext
  show (k0_off2 L) a + 1 * (z a).val = _
  rw [k0_off2_eq]
  match a with
  | 0 => show 512 * (L 1).val + 256 * (L 0).val + 1 * (z 0).val = 256 * (wL L).val + (z 0).val; rw [wL_val]; omega
  | 1 => show 0 + 1 * (z 1).val = (z 1).val; omega

theorem r0K_emb (y : S128x128.Idx) : (r0K).view.emb y
    = Shape.pair (d := ![256, 128]) ⟨(y 0).val, by have : (y 0).val < 128 := (y 0).isLt; show _ < 256; omega⟩ (y 1) := by
  funext a; apply Fin.ext
  match a with
  | 0 => show 0 + 1 * (y 0).val = (y 0).val; omega
  | 1 => show 0 + 1 * (y 1).val = (y 1).val; omega
theorem r1K_emb (y : S128x128.Idx) : (r1K).view.emb y
    = Shape.pair (d := ![256, 128]) ⟨128 + (y 0).val, by have : (y 0).val < 128 := (y 0).isLt; show _ < 256; omega⟩ (y 1) := by
  funext a; apply Fin.ext
  match a with
  | 0 => show 128 + 1 * (y 0).val = 128 + (y 0).val; omega
  | 1 => show 0 + 1 * (y 1).val = (y 1).val; omega
theorem xAllK_emb (y : S33279x128.Idx) : (xAllK).view.emb y = y := by
  funext a; apply Fin.ext
  match a with
  | 0 => show 0 + 1 * (y 0).val = (y 0).val; omega
  | 1 => show 0 + 1 * (y 1).val = (y 1).val; omega

theorem s0K_emb (x : S128.Idx) : (s0K).view.emb x = Shape.pair (d := ![2, 128]) (0 : Fin 2) (x 0) := by
  show ((sV).slice (Rect.unit (s := S2x128) ![0, 0] S1x128.size inb_S2x128_S1x128_0_0) (fun _ => rfl)).view.emb (Shape.reshapeEquiv _ x) = _
  rw [Shape.reshapeEquiv_cons_one]
  funext a; apply Fin.ext
  match a with
  | 0 => rfl
  | 1 => show 0 + 1 * (x 0).val = (x 0).val; omega
theorem s1K_emb (x : S128.Idx) : (s1K).view.emb x = Shape.pair (d := ![2, 128]) (1 : Fin 2) (x 0) := by
  show ((sV).slice (Rect.unit (s := S2x128) ![1, 0] S1x128.size inb_S2x128_S1x128_1_0) (fun _ => rfl)).view.emb (Shape.reshapeEquiv _ x) = _
  rw [Shape.reshapeEquiv_cons_one]
  funext a; apply Fin.ext
  match a with
  | 0 => rfl
  | 1 => show 0 + 1 * (x 0).val = (x 0).val; omega

/-- What the index scratch holds once the fetch has landed. -/
def idxRows (ix : S64x128.Idx → BitVec 32) : S2x128.Idx → BitVec 32 := fun z => ix ((iRowK L).view.emb z)
/-- What the row scratch holds once both gathers have landed. -/
def tileRows (ix : S64x128.Idx → BitVec 32) (tab : S33279x128.Idx → F .f32) : S256x128.Idx → F .f32 :=
  fun z => gathered ix tab ((oRowK L).view.emb z)

theorem idxRows_apply (ix : S64x128.Idx → BitVec 32) (b : Fin 2) (k : Fin 128) (p : Fin 8192) (hp : p.val = 256 * (wL L).val + 128 * b.val + k.val) :
    idxRows L ix (Shape.pair (d := ![2, 128]) b k) = wordOf ix p := by
  unfold idxRows wordOf
  rw [iRowK_emb]
  congr 2
  · apply Fin.ext; show 2 * (wL L).val + b.val = p.val / 128; rw [hp]; have := k.isLt; omega
  · apply Fin.ext; show k.val = p.val % 128; rw [hp]; have := k.isLt; omega

/-- One gather's payload at `y`, where the list's entry for `y`'s row is the word naming result row `p`. -/
theorem payload_eq (ix : S64x128.Idx → BitVec 32) (tab : S33279x128.Idx → F .f32) (off : S128.Idx → Elt F .i32)
    (hn : S128.numel = S128x128.size gathers_S33279x128_S128x128.axis')
    (hin : ∀ x, (off x).toNat < S33279x128.size gathers_S33279x128_S128x128.axis) (y : S128x128.Idx) (p : S8192x128.Idx)
    (hp : (p 1).val = (y 1).val) (hoff : ∀ x : S128.Idx, (x 0).val = (y 0).val → off x = wordOf ix (p 0)) :
    gatherPayload gathers_S33279x128_S128x128 ((xAllK).view.read (Elt F) tab) (rows off hn hin) y = gathered ix tab p := by
  unfold gatherPayload gathered
  rw [View.read_apply, xAllK_emb]
  refine (cast_eq _ _).trans ?_
  congr 1
  have hx : off (S128.rowMajor.symm ((y 0).cast hn.symm)) = wordOf ix (p 0) := hoff _ (by
    have h := Shape.rowMajor_val_one (d := ![128]) (S128.rowMajor.symm ((y 0).cast hn.symm))
    rw [← h]; show (S128.rowMajor (S128.rowMajor.symm _)).val = _; rw [Equiv.apply_symm_apply]; rfl)
  funext a
  match a with
  | 0 =>
    refine (Shape.Gathers.idx_axis gathers_S33279x128_S128x128 _ _).trans (Fin.ext ?_)
    show (off (S128.rowMajor.symm ((y 0).cast hn.symm))).toNat = _
    have hlt : (off (S128.rowMajor.symm ((y 0).cast hn.symm))).toNat < 33279 := hin _
    rw [hx] at hlt ⊢
    show _ = (if _ then _ else _)
    rw [if_pos hlt]
  | 1 =>
    apply Fin.ext
    refine (Shape.Gathers.idx_of_ne gathers_S33279x128_S128x128 _ _ _ (by decide)).trans ?_
    exact hp.symm

/-! ### The row scratch's halves -/

theorem mem_r0K (z : S256x128.Idx) : z ∈ (r0K).view.set ↔ (z 0).val < 128 := by
  constructor
  · intro h
    obtain ⟨y, -, rfl⟩ := Finset.mem_map.mp h
    rw [r0K_emb]; exact (y 0).isLt
  · intro h
    refine Finset.mem_map.mpr ⟨Shape.pair (d := ![128, 128]) ⟨(z 0).val, h⟩ (z 1), Finset.mem_univ _, ?_⟩
    rw [r0K_emb]
    exact Shape.pair_eta (d := ![256, 128]) z
theorem mem_r1K (z : S256x128.Idx) : z ∈ (r1K).view.set ↔ ¬ (z 0).val < 128 := by
  constructor
  · intro h
    obtain ⟨y, -, rfl⟩ := Finset.mem_map.mp h
    rw [r1K_emb]; show ¬ (128 + (y 0).val < 128); omega
  · intro h
    have hz : (z 0).val < 256 := (z 0).isLt
    refine Finset.mem_map.mpr ⟨Shape.pair (d := ![128, 128]) ⟨(z 0).val - 128, by show _ < 128; omega⟩ (z 1), Finset.mem_univ _, ?_⟩
    rw [r1K_emb]
    refine Eq.trans ?_ (Shape.pair_eta (d := ![256, 128]) z)
    congr 1
    apply Fin.ext; show 128 + ((z 0).val - 128) = (z 0).val; omega
theorem r1K_set : (r1K).view.set = Finset.univ \ (r0K).view.set := by
  ext z; rw [Finset.mem_sdiff, mem_r0K, mem_r1K]; exact ⟨fun h => ⟨Finset.mem_univ _, h⟩, fun h => h.2⟩

/-- The two lists' words are rows of the table. -/
theorem inb0 (ix : S64x128.Idx → BitVec 32) (hpre : ∀ j, (ix j).toNat < 33279) :
    ∀ x, ((s0K).view.read (Elt F) (idxRows L ix) x).toNat < S33279x128.size gathers_S33279x128_S128x128.axis := by
  intro x
  rw [show (s0K).view.read (Elt F) (idxRows L ix) x = idxRows L ix ((s0K).view.emb x) from (View.read_apply _ _).trans (cast_eq _ _)]
  exact hpre _
theorem inb1 (ix : S64x128.Idx → BitVec 32) (hpre : ∀ j, (ix j).toNat < 33279) :
    ∀ x, ((s1K).view.read (Elt F) (idxRows L ix) x).toNat < S33279x128.size gathers_S33279x128_S128x128.axis := by
  intro x
  rw [show (s1K).view.read (Elt F) (idxRows L ix) x = idxRows L ix ((s1K).view.emb x) from (View.read_apply _ _).trans (cast_eq _ _)]
  exact hpre _

/-- The first gather leaves the first half of the row scratch as the gathered rows, -/
theorem half0 (ix : S64x128.Idx → BitVec 32) (tab : S33279x128.Idx → F .f32) (fr : S256x128.Idx → F .f32) (hn) (hin) :
    ∀ z ∈ (r0K).view.set, (r0K).view.write (Elt F) fr (gatherPayload gathers_S33279x128_S128x128 ((xAllK).view.read (Elt F) tab)
      (rows ((s0K).view.read (Elt F) (idxRows L ix)) hn hin)) Finset.univ z = tileRows L ix tab z := by
  intro z hz
  obtain ⟨y, -, rfl⟩ := Finset.mem_map.mp hz
  refine (View.write_emb_of_mem _ _ (Finset.mem_univ y)).trans ((cast_eq _ _).trans ?_)
  unfold tileRows
  have hy : (y 0).val < 128 := (y 0).isLt
  have e : (oRowK L).view.emb ((r0K).view.emb y) = _ := (congrArg _ (r0K_emb y)).trans (oRowK_emb L _)
  rw [e]
  refine payload_eq ix tab _ hn hin y _ rfl fun x hx => ?_
  rw [show (s0K).view.read (Elt F) (idxRows L ix) x = idxRows L ix ((s0K).view.emb x) from (View.read_apply _ _).trans (cast_eq _ _), s0K_emb]
  exact idxRows_apply L ix 0 (x 0) _ (by show 256 * (wL L).val + (y 0).val = 256 * (wL L).val + 128 * 0 + (x 0).val; rw [hx]; omega)
/-- and the second gather the second half. -/
theorem half1 (ix : S64x128.Idx → BitVec 32) (tab : S33279x128.Idx → F .f32) (fr : S256x128.Idx → F .f32) (hn) (hin) :
    ∀ z ∈ (r1K).view.set, (r1K).view.write (Elt F) fr (gatherPayload gathers_S33279x128_S128x128 ((xAllK).view.read (Elt F) tab)
      (rows ((s1K).view.read (Elt F) (idxRows L ix)) hn hin)) Finset.univ z = tileRows L ix tab z := by
  intro z hz
  obtain ⟨y, -, rfl⟩ := Finset.mem_map.mp hz
  refine (View.write_emb_of_mem _ _ (Finset.mem_univ y)).trans ((cast_eq _ _).trans ?_)
  unfold tileRows
  have hy : (y 0).val < 128 := (y 0).isLt
  have e : (oRowK L).view.emb ((r1K).view.emb y) = _ := (congrArg _ (r1K_emb y)).trans (oRowK_emb L _)
  rw [e]
  refine payload_eq ix tab _ hn hin y _ rfl fun x hx => ?_
  rw [show (s1K).view.read (Elt F) (idxRows L ix) x = idxRows L ix ((s1K).view.emb x) from (View.read_apply _ _).trans (cast_eq _ _), s1K_emb]
  exact idxRows_apply L ix 1 (x 0) _ (by show 256 * (wL L).val + (128 + (y 0).val) = 256 * (wL L).val + 128 * 1 + (x 0).val; rw [hx]; omega)

/-- The write-out leaves the task's rows of the result gathered. -/
theorem out_eq (ix : S64x128.Idx → BitVec 32) (tab : S33279x128.Idx → F .f32) (o : S8192x128.Idx → F .f32) (pay : S256x128.Idx → F .f32)
    (hpay : pay = (rV).view.read (Elt F) (tileRows L ix tab)) :
    ∀ p ∈ (oRowK L).view.set, (oRowK L).view.writes (Elt F) o [⟨Rect.whole S256x128, pay⟩] p = gathered ix tab p := by
  intro p hp
  obtain ⟨z, -, rfl⟩ := Finset.mem_map.mp hp
  have h := congrFun (View.read_writes_whole (Val := Elt F) (oRowK L).view o pay) z
  rw [View.read_apply] at h
  refine ((cast_eq _ _).symm.trans h).trans ?_
  rw [hpay, View.read_whole]; rfl

/-! ### The subcore's own cells and buffers -/

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch2.sem)
abbrev cCcell (d : Dev nD) (c : Fin τ.nSC) (i : Fin τ.nSub) : GSem nD τ sig := (V d c i, .dma cc0_scoped1.sem)

/-- The three semaphores the task uses are among the subcore's own. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

/-- The two scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The task -/

theorem hnum : S128.numel = S128x128.size gathers_S33279x128_S128x128.axis' := rfl
theorem hpos : 0 < S128x128.size gathers_S33279x128_S128x128.axis' := by decide
/-- What one gathered row credits the semaphore. -/
abbrev credit : ℕ := ((r0K).slice (S128x128.rowRect gathers_S33279x128_S128x128.axis' ⟨0, hpos⟩) (S128x128.stride_rowRect _ ⟨0, hpos⟩)).view.dmaCredit

theorem credit0 : ∀ j, ((r0K).slice (S128x128.rowRect gathers_S33279x128_S128x128.axis' j) (S128x128.stride_rowRect _ j)).view.dmaCredit = credit := fun _ => rfl
theorem credit1 : ∀ j, ((r1K).slice (S128x128.rowRect gathers_S33279x128_S128x128.axis' j) (S128x128.stride_rowRect _ j)).view.dmaCredit = credit := fun _ => rfl
theorem credit_half0 : (r0K).view.dmaCredit = 128 * credit := by decide
theorem credit_half1 : (r1K).view.dmaCredit = 128 * credit := by decide
theorem credit_pos : 0 < credit := by decide

/-- What row `t` of the first gather delivers, and of the second. -/
abbrev D0 (hpre : ∀ j, (ix d j).toNat < 33279) (fr : S256x128.Idx → F .f32) (t : Fin 128) : sProp 𝕄 :=
  rowDone (F := F) (V d (cV L) (jV L)) xAllK r0K gathers_S33279x128_S128x128 s0K hnum cc0_scratch2.sem (View.wordExact_bits rfl) rfl (Or.inl rfl) (by decide) hpos
    (xq (wL L)).left fullShare.left (tab d) fr (idxRows L (ix d)) (rows ((s0K).view.read (Elt F) (idxRows L (ix d))) hnum (inb0 (F := F) L (ix d) hpre)) t
abbrev D1 (hpre : ∀ j, (ix d j).toNat < 33279) (fr : S256x128.Idx → F .f32) (t : Fin 128) : sProp 𝕄 :=
  rowDone (F := F) (V d (cV L) (jV L)) xAllK r1K gathers_S33279x128_S128x128 s1K hnum cc0_scratch2.sem (View.wordExact_bits rfl) rfl (Or.inl rfl) (by decide) hpos
    (xq (wL L)).right fullShare.right (tab d) fr (idxRows L (ix d)) (rows ((s1K).view.read (Elt F) (idxRows L (ix d))) hnum (inb1 (F := F) L (ix d) hpre)) t
/-- The 256 rows' deliveries, the first gather's and then the second's. -/
abbrev DD (hpre : ∀ j, (ix d j).toNat < 33279) (fr : S256x128.Idx → F .f32) (t : Fin 256) : sProp 𝕄 :=
  Fin.addCases (m := 128) (n := 128) (motive := fun _ => sProp 𝕄) (D0 ix tab d L hpre fr) (D1 ix tab d L hpre fr) t

instance DD_storable (hpre : ∀ j, (ix d j).toNat < 33279) (fr : S256x128.Idx → F .f32) (t : Fin 256) :
    Storable (upEmb : UEmb _ 𝕄) (DD ix tab d L hpre fr t) := by
  refine Fin.addCases (m := 128) (n := 128) (motive := fun t => Storable (upEmb : UEmb _ 𝕄) (DD ix tab d L hpre fr t)) (fun k => ?_) (fun k => ?_) t
  · unfold DD; rw [Fin.addCases_left]; exact rowDone_storable ..
  · unfold DD; rw [Fin.addCases_right]; exact rowDone_storable ..

theorem DD_split (hpre : ∀ j, (ix d j).toNat < 33279) (fr : S256x128.Idx → F .f32) :
    bigSep Finset.univ (DD ix tab d L hpre fr) = iprop(bigSep Finset.univ (D0 ix tab d L hpre fr) ∗ bigSep Finset.univ (D1 ix tab d L hpre fr)) := by
  rw [bigSep_univ_equiv (finSumFinEquiv (m := 128) (n := 128)) (DD ix tab d L hpre fr), bigSep_univ_sum]
  have h0 : ∀ k : Fin 128, DD ix tab d L hpre fr (finSumFinEquiv (m := 128) (n := 128) (Sum.inl k)) = D0 ix tab d L hpre fr k := fun k => by
    unfold DD; rw [finSumFinEquiv_apply_left, Fin.addCases_left]
  have h1 : ∀ k : Fin 128, DD ix tab d L hpre fr (finSumFinEquiv (m := 128) (n := 128) (Sum.inr k)) = D1 ix tab d L hpre fr k := fun k => by
    unfold DD; rw [finSumFinEquiv_apply_right, Fin.addCases_right]
  rw [funext h0, funext h1]
  rfl

/-- The first gather's rows together are the first half of the row scratch gathered, and the shares they were read at; -/
theorem D0_join (hpre : ∀ j, (ix d j).toNat < 33279) (fr : S256x128.Idx → F .f32) :
    bigSep Finset.univ (D0 ix tab d L hpre fr)
      ⊢ (iprop(((r0K).view.loc (V d (cV L) (jV L)) ↦[(r0K).view.set]{fullShare} tileRows L (ix d) (tab d))
          ∗ ((xAllK).view.loc (V d (cV L) (jV L)) ↦[(xAllK).view.set]{(xq (wL L)).left} tab d)
          ∗ ((s0K).view.loc (V d (cV L) (jV L)) ↦[(s0K).view.set]{fullShare.left} idxRows L (ix d))) : sProp 𝕄) := by
  rw [← pointsTo_congr (half0 L (ix d) (tab d) fr hnum (inb0 (F := F) L (ix d) hpre))]
  exact rowDone_join (F := F) (V d (cV L) (jV L)) xAllK r0K gathers_S33279x128_S128x128 s0K hnum cc0_scratch2.sem (View.wordExact_bits rfl) rfl (Or.inl rfl) (by decide) hpos
    (xq (wL L)).left fullShare.left (tab d) fr (idxRows L (ix d)) (rows ((s0K).view.read (Elt F) (idxRows L (ix d))) hnum (inb0 (F := F) L (ix d) hpre))
/-- the second gather's, the second half. -/
theorem D1_join (hpre : ∀ j, (ix d j).toNat < 33279) (fr : S256x128.Idx → F .f32) :
    bigSep Finset.univ (D1 ix tab d L hpre fr)
      ⊢ (iprop(((r1K).view.loc (V d (cV L) (jV L)) ↦[(r1K).view.set]{fullShare} tileRows L (ix d) (tab d))
          ∗ ((xAllK).view.loc (V d (cV L) (jV L)) ↦[(xAllK).view.set]{(xq (wL L)).right} tab d)
          ∗ ((s1K).view.loc (V d (cV L) (jV L)) ↦[(s1K).view.set]{fullShare.right} idxRows L (ix d))) : sProp 𝕄) := by
  rw [← pointsTo_congr (half1 L (ix d) (tab d) fr hnum (inb1 (F := F) L (ix d) hpre))]
  exact rowDone_join (F := F) (V d (cV L) (jV L)) xAllK r1K gathers_S33279x128_S128x128 s1K hnum cc0_scratch2.sem (View.wordExact_bits rfl) rfl (Or.inl rfl) (by decide) hpos
    (xq (wL L)).right fullShare.right (tab d) fr (idxRows L (ix d)) (rows ((s1K).view.read (Elt F) (idxRows L (ix d))) hnum (inb1 (F := F) L (ix d) hpre))

/-- A program that returns goes on as its continuation. -/
theorem wp_ret_bind {α β : Type} (x : α) (k : α → Prog (TpuEff nD τ sig (Elt F) Λ₀ (V (nD := nD) d (cV L) (jV L)).2) β) (Q : β → sProp 𝕄) :
    wp frame (wpE (defs₀ (F := F)) 𝒱₀ (V d (cV L) (jV L)) none) Set.univ (k x) Q
      ⊢ wp frame (wpE (defs₀ (F := F)) 𝒱₀ (V d (cV L) (jV L)) none) Set.univ ((Prog.ret x).bind k) Q := BIBase.Entails.rfl

set_option maxHeartbeats 4000000 in
/-- The task on vector subcore `(L 0, L 1)`: it takes its two rows of the index matrix, its share of the table and its
    rows of the result, and brings them back, the rows of the result gathered. -/
theorem tile_body (hF : (K (F := F)).Facts) (hpre : ∀ j, (ix d j).toNat < 33279) (O : CellTallies nD τ sig (HIx 1)) (W : Waits sig (HIx 1)) (hO : ∀ g, O g none = 0) :
    iprop(levAts (K (F := F)).L (K (F := F)).lev ∗ emp ∗ taskPts ix tab o₀ d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L xV (Memref.isWhole_whole _) iV (Memref.isWhole_whole _) oV (Memref.isWhole_whole _)
            sV (Memref.isWhole_whole _) rV (Memref.isWhole_whole _) cc0_scratch2 cc0_scoped0 cc0_scoped1)
          fun _ => iprop(taskPts ix tab (fun d => gathered (ix d) (tab d)) d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton, k0_part1_eq_skeleton]; unfold cc0_k_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave #Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hs' := (show ((V d (cV L) (jV L)).loc cc0_scratch0 ↦{fullShare} fs : sProp 𝕄) ⊢ (sV).view.loc (V d (cV L) (jV L)) ↦{fullShare} fs from BIBase.Entails.rfl) $$ Hs
  ihave Hr' := (show ((V d (cV L) (jV L)).loc cc0_scratch1 ↦{fullShare} fr : sProp 𝕄) ⊢ (rV).view.loc (V d (cV L) (jV L)) ↦{fullShare} fr from BIBase.Entails.rfl) $$ Hr
  sl_exec
  ihave Hs2 := (Entails.of_eq (show ((sV).view.loc (V d (cV L) (jV L)) ↦{fullShare} View.write (Elt F) (sV).view fs (tile_body.sl.dma0 ix d L) Finset.univ : sProp 𝕄)
      = (sV).view.loc (V d (cV L) (jV L)) ↦{fullShare} idxRows L (ix d) from by rw [View.write_whole_univ]; rfl)) $$ Hs'
  ihave Hs3 := (pointsTo_share (PosShare.mem_left_op_right fullShare)).1 $$ Hs2
  icases Hs3 with ⟨HsL, HsR⟩
  ihave HsL2 := (pointsTo_split_subset (Finset.subset_univ (s0K).view.set)).1 $$ HsL
  icases HsL2 with ⟨HsL, HsL'⟩
  ihave HsR2 := (pointsTo_split_subset (Finset.subset_univ (s1K).view.set)).1 $$ HsR
  icases HsR2 with ⟨HsR, HsR'⟩
  ihave Hx3 := (pointsTo_share (PosShare.mem_left_op_right (xq (wL L)))).1 $$ Hx
  icases Hx3 with ⟨HxL, HxR⟩
  ihave HxL2 := (pointsTo_split_subset (Finset.subset_univ (xAllK).view.set)).1 $$ HxL
  icases HxL2 with ⟨HxL, HxL'⟩
  ihave HxR2 := (pointsTo_split_subset (Finset.subset_univ (xAllK).view.set)).1 $$ HxR
  icases HxR2 with ⟨HxR, HxR'⟩
  ihave Hr2 := (pointsTo_split_subset (Finset.subset_univ (r0K).view.set)).1 $$ Hr'
  icases Hr2 with ⟨Hr0, Hr1'⟩
  ihave Hr1 := (Entails.of_eq (show ((rV).view.loc (V d (cV L) (jV L)) ↦[Finset.univ \ (r0K).view.set]{fullShare} fr : sProp 𝕄)
      = (r1K).view.loc (V d (cV L) (jV L)) ↦[(r1K).view.set]{fullShare} fr from by rw [r1K_set])) $$ Hr1'
  imod (Transfers.batch_alloc' EC (V d (cV L) (jV L)) (default : HIx 1) credit (DD ix tab d L hpre fr) (E := Set.univ)) $$ HsemB with HB
  iapply (wp_gatherBatch (V d (cV L) (jV L)) EC 𝒱₀ none (default : HIx 1) credit credit0 hpos (inb0 (F := F) L (ix d) hpre)
    (n := 256) (D := DD ix tab d L hpre fr) (j := 0) (u := 0) (by decide) (by decide) ?_) $$ [HxL Hr0 HsL HB]
  rotate_left
  · isplitl [HxL]; · iexact HxL
    isplitl [Hr0]; · iexact Hr0
    isplitl [HsL]; · iexact HsL
    iexact HB
  · iintro HB
    sl_exec
    iapply (wp_gatherBatch (V d (cV L) (jV L)) EC 𝒱₀ none (default : HIx 1) credit credit1 hpos (inb1 (F := F) L (ix d) hpre)
      (n := 256) (D := DD ix tab d L hpre fr) (j := 0 + 128) (u := 0) (by decide) (by decide) ?_) $$ [HxR Hr1 HsR HB]
    rotate_left
    · isplitl [HxR]; · iexact HxR
      isplitl [Hr1]; · iexact Hr1
      isplitl [HsR]; · iexact HsR
      iexact HB
    · iintro HB
      sl_exec
      iapply (Transfers.wp_waitBatchMulO EC 𝒱₀ (V d (cV L) (jV L)) none (default : HIx 1) (N := credit) (n := 256) (j := 256) (u := 0) 128 credit_half0 (by decide)) $$ [HB HO]
      · isplitl [HB]; · iexact HB
        isplitl [HO]; · iexact HO
        iapply (Transfers.MayWaits.elim (SemLoc.dma cc0_scratch2.sem)) $$ Hmw
      iintro ⟨HB, HO⟩
      sl_step
      iapply (Transfers.wp_waitBatchAllO EC 𝒱₀ (V d (cV L) (jV L)) none (default : HIx 1) (N := credit) (n := 256) (u := 0 + 128 * credit) credit_half1 credit_pos (by decide)) $$ [HB HO]
      · isplitl [HB]; · iexact HB
        isplitl [HO]; · iexact HO
        iapply (Transfers.MayWaits.elim (SemLoc.dma cc0_scratch2.sem)) $$ Hmw
      iintro ⟨HD, HsemB, HO⟩
      ihave HD2 := (Entails.of_eq (DD_split ix tab d L hpre fr)) $$ HD
      icases HD2 with ⟨HD0, HD1⟩
      ihave HJ0 := (D0_join ix tab d L hpre fr) $$ HD0
      icases HJ0 with ⟨Hr0, HxL, HsL⟩
      ihave HJ1 := (D1_join ix tab d L hpre fr) $$ HD1
      icases HJ1 with ⟨Hr1, HxR, HsR⟩
      ihave Hr1 := (Entails.of_eq (show ((r1K).view.loc (V d (cV L) (jV L)) ↦[(r1K).view.set]{fullShare} tileRows L (ix d) (tab d) : sProp 𝕄)
        = (rV).view.loc (V d (cV L) (jV L)) ↦[Finset.univ \ (r0K).view.set]{fullShare} tileRows L (ix d) (tab d) from by rw [r1K_set])) $$ Hr1
      ihave Hr := (pointsTo_split_subset (ℓ := (rV).view.loc (V d (cV L) (jV L))) (q := fullShare) (f := tileRows L (ix d) (tab d)) (S := Finset.univ) (Finset.subset_univ (r0K).view.set)).2 $$ [Hr0 Hr1]
      · isplitl [Hr0]; · iexact Hr0
        iexact Hr1
      ihave HxL := (pointsTo_split_subset (ℓ := xLoc d) (q := (xq (wL L)).left) (f := tab d) (S := Finset.univ) (Finset.subset_univ (xAllK).view.set)).2 $$ [HxL HxL']
      · isplitl [HxL]; · iexact HxL
        iexact HxL'
      ihave HxR := (pointsTo_split_subset (ℓ := xLoc d) (q := (xq (wL L)).right) (f := tab d) (S := Finset.univ) (Finset.subset_univ (xAllK).view.set)).2 $$ [HxR HxR']
      · isplitl [HxR]; · iexact HxR
        iexact HxR'
      ihave Hx := (pointsTo_share (ℓ := xLoc d) (I := Finset.univ) (f := tab d) (PosShare.mem_left_op_right (xq (wL L)))).2 $$ [HxL HxR]
      · isplitl [HxL]; · iexact HxL
        iexact HxR
      ihave HsL := (pointsTo_split_subset (ℓ := (sV).view.loc (V d (cV L) (jV L))) (q := fullShare.left) (f := idxRows L (ix d)) (S := Finset.univ) (Finset.subset_univ (s0K).view.set)).2 $$ [HsL HsL']
      · isplitl [HsL]; · iexact HsL
        iexact HsL'
      ihave HsR := (pointsTo_split_subset (ℓ := (sV).view.loc (V d (cV L) (jV L))) (q := fullShare.right) (f := idxRows L (ix d)) (S := Finset.univ) (Finset.subset_univ (s1K).view.set)).2 $$ [HsR HsR']
      · isplitl [HsR]; · iexact HsR
        iexact HsR'
      ihave Hs := (pointsTo_share (ℓ := (sV).view.loc (V d (cV L) (jV L))) (I := Finset.univ) (f := idxRows L (ix d)) (PosShare.mem_left_op_right fullShare)).2 $$ [HsL HsR]
      · isplitl [HsL]; · iexact HsL
        iexact HsR
      iapply (wp_ret_bind d L)
      sl_exec
      sl_step
      isplitl [Hi' Hx Ho']
      · isplitl [Hi']; · iapply (Entails.of_eq (pts_iRowK (F := F) d L _)); iexact Hi'
        isplitl [Hx]; · iexact Hx
        iapply (Entails.of_eq (pts_oRowK (F := F) d L (gathered (ix d) (tab d))))
        iapply (Entails.of_eq (pointsTo_congr (out_eq L (ix d) (tab d) (o₀ d) (tile_body.sl.dma0_1 ix tab d L) rfl)))
        iexact Ho'
      isplitl [Hs Hr Hbufs]
      · isplitl [Hs]; · iexists _; iexact Hs
        isplitl [Hr]; · iexists _; iexact Hr
        iexact Hbufs
      isplitl [HsemA HsemB HsemC Hsems]
      · isplitl [HsemA]; · iexact HsemA
        isplitl [HsemB]; · iexact HsemB
        isplitl [HsemC]; · iexact HsemC
        iexact Hsems
      iexists _; isplitr
      swap; · iexact HO
      ipureintro; intro p hp
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      exact .inl hp
    · intro t
      have e : DD ix tab d L hpre fr ⟨0 + 128 + t.val, by have : t.val < 128 := t.isLt; omega⟩ = D1 ix tab d L hpre fr t :=
        (congrArg (DD ix tab d L hpre fr) (Fin.ext (by show 0 + 128 + t.val = 128 + t.val; omega))).trans
          (Fin.addCases_right (m := 128) (n := 128) (motive := fun _ => sProp 𝕄) (left := D0 ix tab d L hpre fr) (right := D1 ix tab d L hpre fr) t)
      exact Entails.of_eq e.symm
  intro t
  have e : DD ix tab d L hpre fr ⟨0 + t.val, by have : t.val < 128 := t.isLt; omega⟩ = D0 ix tab d L hpre fr t :=
    (congrArg (DD ix tab d L hpre fr) (Fin.ext (by show 0 + t.val = t.val; omega))).trans
      (Fin.addCases_left (m := 128) (n := 128) (motive := fun _ => sProp 𝕄) (left := D0 ix tab d L hpre fr) (right := D1 ix tab d L hpre fr) t)
  exact Entails.of_eq e.symm

/-! ## The launch's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          xV (Memref.isWhole_whole _) iV (Memref.isWhole_whole _) oV (Memref.isWhole_whole _)
          sV (Memref.isWhole_whole _) rV (Memref.isWhole_whole _) cc0_scratch2 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task meets its obligation, where the index matrix names rows of the table only. -/
theorem tileObl (hF : (K (F := F)).Facts) (hpre : ∀ d j, (ix d j).toNat < 33279) : (K (F := F)).TileObl (D (F := F)) 𝒱 (P ix tab o₀) v₀ 0 := by
  intro d c i O W hO _ _
  simp only [show (P ix tab o₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body ix tab o₀ d (coordsV ⟨_, hci.1⟩ ⟨_, hci.2⟩) hF (hpre d) O W hO).trans (wp_mono frame _ _ fun _ => obl_post)

end Tile

end Cert.Proof.KernelIdeal
-- ==== Proof.Join.lean ====
/-
  The gather's launch seen from @main: the index matrix, the table and the result whole are the thirty-two tasks' pieces,
  dealt over the two SparseCores.
-/
module

public import proofs.«01_k».proof.Proof.Task

@[expose] public section

noncomputable section

namespace Cert.Proof.KernelIdeal

open Cert.KernelIdeal Cert.KernelIdeal.Gen
open Idealize.ShloMosaic Idealize.ShloMosaic.SparseCore
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

theorem iRowSet_eq (w : Fin 32) : iRowSet w = (irow w).set := by
  unfold iRowSet; rw [View.set_slice]; exact Finset.map_refl
theorem oRowSet_eq (w : Fin 32) : oRowSet w = (orow w).set := by
  unfold oRowSet; rw [View.set_slice]; exact Finset.map_refl
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
theorem irows_cover : (Finset.univ : Finset (Fin 32)).biUnion iRowSet = Finset.univ :=
  (Finset.biUnion_congr rfl fun i _ => iRowSet_eq i).trans (Rect.biUnion_part idiv)
theorem orows_cover : (Finset.univ : Finset (Fin 32)).biUnion oRowSet = Finset.univ :=
  (Finset.biUnion_congr rfl fun i _ => oRowSet_eq i).trans (Rect.biUnion_part odiv)

/-- The index matrix whole is the tasks' rows of it. -/
theorem iPts_rows (d : Dev nD) (f : S64x128.Idx → BitVec 32) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]; try rfl
/-- The result whole is the tasks' rows of it. -/
theorem oPts_rows (d : Dev nD) (f : S8192x128.Idx → F .f32) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl
/-- A buffer whole is thirty-two shares of it. -/
theorem whole_shares {ℓ : Loc nD τ sig} (f : Buf (Elt F) ℓ) :
    (ℓ ↦{fullShare} f : sProp 𝕄) = bigSep Finset.univ fun w : Fin 32 => ℓ ↦{xq w} f :=
  pointsTo_piecesOf Finset.univ f pos32 fullShare
/-- The table whole is the tasks' shares of it. -/
theorem xPts_shares (d : Dev nD) (f : S33279x128.Idx → F .f32) :
    (xLoc d ↦{fullShare} f : sProp 𝕄) = bigSep Finset.univ fun w : Fin 32 => xLoc d ↦{xq w} f :=
  whole_shares (ℓ := xLoc d) f

/-- Tasks dealt by SparseCore and tile are the thirty-two tasks. -/
theorem bigSep_tasks (Φ : Fin 32 → sProp 𝕄) :
    (bigSep Finset.univ fun c : Fin 2 => bigSep Finset.univ fun i : Fin 16 => Φ (taskNo c i)) = bigSep Finset.univ Φ := by
  rw [BI.bigSep_univ_comm, BI.bigSep_univ_equiv (finProdFinEquiv : Fin 16 × Fin 2 ≃ Fin 32) Φ, BI.bigSep_univ_prod]
  refine bigSep_congr fun i _ => bigSep_congr fun c _ => congrArg Φ (Fin.ext ?_)
  simp [taskNo, finProdFinEquiv]; omega

variable (ix : Dev nD → S64x128.Idx → BitVec 32) (tab : Dev nD → S33279x128.Idx → F .f32) (o₀ : Dev nD → S8192x128.Idx → F .f32)

/-- The thirty-two tasks' pieces are the three arrays whole. -/
theorem tasks_whole (f : Dev nD → S8192x128.Idx → F .f32) (d : Dev nD) :
    (bigSep Finset.univ fun w : Fin 32 => (taskPts ix tab f d w : sProp 𝕄))
      = iprop((iLoc d ↦{fullShare} ix d) ∗ (xLoc d ↦{fullShare} tab d) ∗ oLoc d ↦{fullShare} f d) := by
  rw [bigSep_sep', bigSep_sep', iPts_rows, xPts_shares, oPts_rows]

/-- What the call is handed: the three arrays whole. -/
theorem st0_eq (d : Dev nD) : (bigSep Finset.univ fun c : Fin ((K (F := F)).nCore 0) => (P ix tab o₀).st 0 d c)
    = iprop((iLoc d ↦{fullShare} ix d) ∗ (xLoc d ↦{fullShare} tab d) ∗ oLoc d ↦{fullShare} o₀ d) :=
  (bigSep_tasks (taskPts ix tab o₀ d)).trans (tasks_whole ix tab o₀ d)

/-- What the call brings back: the three arrays whole, the result gathered. -/
theorem dn0_eq (d : Dev nD) : (bigSep Finset.univ fun c : Fin ((K (F := F)).nCore 0) => (P ix tab o₀).dn 0 d c)
    = iprop((iLoc d ↦{fullShare} ix d) ∗ (xLoc d ↦{fullShare} tab d) ∗ oLoc d ↦{fullShare} gathered (ix d) (tab d)) :=
  (bigSep_tasks (taskPts ix tab (fun d => gathered (ix d) (tab d)) d)).trans (tasks_whole ix tab _ d)

end Cert.Proof.KernelIdeal
-- ==== Proof.Body.lean ====
/-
  The body of the dense kernel, on any staging buffers. At the first grid point it computes the hidden layer from the
  whole gathered rows, the first weights and the first bias, and keeps it in the scratch buffer; at every point it
  computes one block of columns of the output layer from the scratch, a block of the second weights and a block of the
  second bias.
-/
module

public import proofs.«01_k».proof.Proof.Task

@[expose] public section

noncomputable section

namespace Cert.Proof.KernelIdeal

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig (HIx 1) (Elt F) ℕ UU ℕ

/-- The offsets of an access to a whole rank-two buffer are zero. -/
theorem zeros2 : (![0, 0] : Fin 2 → Nat) = fun _ => 0 := funext fun a => by fin_cases a <;> rfl

/-- A load of everything a view names reads the view. -/
theorem readAt_all {κ : Kind} {sp : Space} {s : Shape} {e : EltTy} (v : View sig κ sp s e) {off : Fin s.rank → Nat}
    (h : off = fun _ => 0) (inb : ∀ a, off a + s.size a ≤ s.size a) (f : v.ty.Contents (Elt F)) :
    v.readAt (Elt F) (Rect.unit off s.size inb).toLoadRect f = v.read (Elt F) f := by
  subst h
  funext x
  show v.read (Elt F) f ((Rect.whole s).emb x) = _
  rw [Rect.emb_whole_apply]

/-- After one unmasked store to everything a view names, the view reads as what was stored. -/
theorem read_writes_all {κ : Kind} {sp : Space} {s : Shape} {e : EltTy} (v : View sig κ sp s e) {off : Fin s.rank → Nat}
    (h : off = fun _ => 0) (inb : ∀ a, off a + s.size a ≤ s.size a) (f : v.ty.Contents (Elt F)) (w : s.Idx → Elt F e) :
    v.read (Elt F) (v.writes (Elt F) f [⟨Rect.unit off s.size inb, w⟩]) = w := by
  subst h
  exact View.read_writes_whole (Val := Elt F) v f w

/-- Whether the body's guard fires at coordinate `n`. -/
abbrev guard (n : Nat) : BitVec 1 :=
  Scalar.cmpi .ne (Scalar.extui (Scalar.cmpi .eq (BitVec.ofNat 32 n) 0#32) : BitVec 32) 0#32

/-- The guard fires at the first grid point only. -/
theorem guard_iff : ∀ t : Fin cfg1.N, guard (grid1.coords t 0).val = 1#1 ↔ t.val = 0 := by decide +kernel

/-- The hidden layer of the rows `e`, the weights `w` and the bias `b`. -/
abbrev hidden (e : S4096x256.Idx → F .f32) (w : S256x100.Idx → F .f32) (b : S1x100.Idx → F .f32) : S4096x100.Idx → F .bf16 :=
  k1_pay1 e w b

/-- One block of columns of the output layer, of the hidden layer `h`, a block `w` of weights and a block `b` of the bias. -/
abbrev outBlock (h : S4096x100.Idx → F .bf16) (w : S100x1024.Idx → F .bf16) (b : S1x1024.Idx → F .f32) : S4096x1024.Idx → F .f32 :=
  k1_pay2 h w b

section Body

variable (c : Dev nD) (i : grid1.Coords)
  (arg1 : Memref sig .tc .vmem S4096x256 .f32) (h1 : arg1.IsWhole) (arg2 : Memref sig .tc .vmem S256x100 .f32) (h2 : arg2.IsWhole)
  (arg3 : Memref sig .tc .vmem S1x100 .f32) (h3 : arg3.IsWhole) (arg4 : Memref sig .tc .vmem S100x1024 .bf16) (h4 : arg4.IsWhole)
  (arg5 : Memref sig .tc .vmem S1x1024 .f32) (h5 : arg5.IsWhole) (arg6 : Memref sig .tc .vmem S4096x1024 .f32) (h6 : arg6.IsWhole)
  (arg7 : Memref sig .tc .vmem S4096x100 .bf16) (h7 : arg7.IsWhole)
  (X1 : S4096x256.Idx → F .f32) (X2 : S256x100.Idx → F .f32) (X3 : S1x100.Idx → F .f32) (X4 : S100x1024.Idx → F .bf16)
  (X5 : S1x1024.Idx → F .f32) (X6 : S4096x1024.Idx → F .f32) (X7 : S4096x100.Idx → F .bf16)

/-- The kernel's body where the guard fires: the scratch ends holding the hidden layer of the three buffers read, and the
    result's buffer the output block of that hidden layer. -/
theorem body_first (Q : PUnit → sProp 𝕄) (hg : guard (i 0).val = 1#1) :
    iprop((owns (c : Thread nD τ) arg1 fullShare X1 ∗ owns (c : Thread nD τ) arg2 fullShare X2 ∗ owns (c : Thread nD τ) arg3 fullShare X3
        ∗ owns (c : Thread nD τ) arg4 fullShare X4 ∗ owns (c : Thread nD τ) arg5 fullShare X5 ∗ owns (c : Thread nD τ) arg6 fullShare X6
        ∗ owns (c : Thread nD τ) arg7 fullShare X7)
      ∗ ((owns (c : Thread nD τ) arg1 fullShare X1 ∗ owns (c : Thread nD τ) arg2 fullShare X2 ∗ owns (c : Thread nD τ) arg3 fullShare X3
        ∗ owns (c : Thread nD τ) arg4 fullShare X4 ∗ owns (c : Thread nD τ) arg5 fullShare X5
        ∗ owns (c : Thread nD τ) arg6 fullShare (outBlock (hidden X1 X2 X3) X4 X5)
        ∗ owns (c : Thread nD τ) arg7 fullShare (hidden X1 X2 X3)) -∗ Q ⟨⟩))
      ⊢ wp frame (wpE (defs₀ (F := F)) 𝒱₀ (c : Thread nD τ) none) Set.univ
          (cc1_body i arg1 h1 arg2 h2 arg3 h3 arg4 h4 arg5 h5 arg6 h6 arg7 h7) Q := by
  rw [cc1_body_eq_skeleton]
  unfold cc1_body_skel
  dsimp only
  rw [dif_pos hg]
  simp only [Prog.lift, Prog.bind_op, Prog.bind_ret]
  unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩⟩, Hk⟩
  sl_exec
  rw [wp_ret]; imodintro
  have r1 := (readAt_all (F := F) arg1.view zeros2 inb_S4096x256_S4096x256_0_0 f1).trans e1
  have r2 := (readAt_all (F := F) arg2.view zeros2 inb_S256x100_S256x100_0_0 f2).trans e2
  have r3 := (readAt_all (F := F) arg3.view zeros2 inb_S1x100_S1x100_0_0 f3).trans e3
  have r4 := (readAt_all (F := F) arg4.view zeros2 inb_S100x1024_S100x1024_0_0 f4).trans e4
  have r5 := (readAt_all (F := F) arg5.view zeros2 inb_S1x1024_S1x1024_0_0 f5).trans e5
  have hw7 : ∀ g, arg7.view.read (Elt F) (arg7.view.writes (Elt F) g (body_first.sl.H7_1 c arg1 arg2 arg3 f1 f2 f3)) = hidden X1 X2 X3 := by
    intro g
    rw [← r1, ← r2, ← r3]
    exact read_writes_all (F := F) arg7.view zeros2 inb_S4096x100_S4096x100_0_0 g _
  have r7 : body_first.sl.v3 c arg1 arg2 arg3 arg7 f1 f2 f3 = hidden X1 X2 X3 := by
    unfold body_first.sl.v3 View.readCov
    exact (readAt_all (F := F) arg7.view zeros2 inb_S4096x100_S4096x100_0_0 _).trans (hw7 _)
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]
  · iexists _
    isplitr [H6]
    on_goal 2 => iexact H6
    ipureintro
    refine (read_writes_all (F := F) arg6.view zeros2 inb_S4096x1024_S4096x1024_0_0 f6 _).trans ?_
    rw [← r7, ← r4, ← r5]
  · iexists _
    isplitr [H7]
    on_goal 2 => iexact H7
    ipureintro
    exact hw7 _

/-- The kernel's body where the guard does not fire: the scratch is read and the result's buffer ends holding its output block. -/
theorem body_later (Q : PUnit → sProp 𝕄) (hg : ¬guard (i 0).val = 1#1) :
    iprop((owns (c : Thread nD τ) arg4 fullShare X4 ∗ owns (c : Thread nD τ) arg5 fullShare X5 ∗ owns (c : Thread nD τ) arg6 fullShare X6
        ∗ owns (c : Thread nD τ) arg7 fullShare X7)
      ∗ ((owns (c : Thread nD τ) arg4 fullShare X4 ∗ owns (c : Thread nD τ) arg5 fullShare X5
        ∗ owns (c : Thread nD τ) arg6 fullShare (outBlock X7 X4 X5)
        ∗ owns (c : Thread nD τ) arg7 fullShare X7) -∗ Q ⟨⟩))
      ⊢ wp frame (wpE (defs₀ (F := F)) 𝒱₀ (c : Thread nD τ) none) Set.univ
          (cc1_body i arg1 h1 arg2 h2 arg3 h3 arg4 h4 arg5 h5 arg6 h6 arg7 h7) Q := by
  rw [cc1_body_eq_skeleton]
  unfold cc1_body_skel
  dsimp only
  rw [dif_neg hg]
  simp only [Prog.lift, Prog.bind_op, Prog.bind_ret, Prog.pure_eq_ret]
  unfold owns
  iintro ⟨⟨⟨%f4, %e4, H4⟩, ⟨%f5, %e5, H5⟩, ⟨%f6, %e6, H6⟩, ⟨%f7, %e7, H7⟩⟩, Hk⟩
  sl_exec
  rw [wp_ret]; imodintro
  have r4 := (readAt_all (F := F) arg4.view zeros2 inb_S100x1024_S100x1024_0_0 f4).trans e4
  have r5 := (readAt_all (F := F) arg5.view zeros2 inb_S1x1024_S1x1024_0_0 f5).trans e5
  have r7 := (readAt_all (F := F) arg7.view zeros2 inb_S4096x100_S4096x100_0_0 f7).trans e7
  iapply Hk
  isplitl [H4]; · iexists f4; isplitr; · ipureintro; exact e4
                  iexact H4
  isplitl [H5]; · iexists f5; isplitr; · ipureintro; exact e5
                  iexact H5
  isplitl [H6]
  · iexists _
    isplitr [H6]
    on_goal 2 => iexact H6
    ipureintro
    refine (read_writes_all (F := F) arg6.view zeros2 inb_S4096x1024_S4096x1024_0_0 f6 _).trans ?_
    rw [← r7, ← r4, ← r5]
  · iexists f7; isplitr; · ipureintro; exact e7
    iexact H7

end Body

end Cert.Proof.KernelIdeal
-- ==== Proof.Mlp.lean ====
/-
  The dense kernel's region: its grid of 33 points, each computing 1024 columns of the result (the last 511 of them inside
  the array). What each point leaves is related to the blocks of weights and bias it was handed, on the columns that lie
  inside the arrays; from this the result array is described column block by column block.
-/
module

public import proofs.«01_k».proof.Proof.Body
public import proofs.«01_k».proof.Proof.Gen.KernelIdeal.Points
public import Idealize.ShloMosaic.Lib.Pipeline.RegionArrays

@[expose] public section

noncomputable section

namespace Cert.Proof.KernelIdeal

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (RDat)

variable {F : FTy → Type} [FloatOps F]

local notation "𝕄" => MT nD τ sig (HIx 1) (Elt F) ℕ UU ℕ

/-! ## The windows' blocks -/

/-- Where the cut windows' blocks start, and how much of each lies inside the array. -/
theorem cuts : ∀ t : Fin grid1.N,
    win1_3.index t 0 = 0 ∧ win1_3.index t 1 = t.val ∧ win1_3.xsize (grid1.coords t) 0 = 100 ∧ (win1_3.xsize (grid1.coords t) 1 = if t.val = 32 then 511 else 1024)
    ∧ win1_4.index t 0 = 0 ∧ win1_4.index t 1 = t.val ∧ win1_4.xsize (grid1.coords t) 0 = 1 ∧ (win1_4.xsize (grid1.coords t) 1 = if t.val = 32 then 511 else 1024)
    ∧ win1_5.index t 0 = 0 ∧ win1_5.index t 1 = t.val ∧ win1_5.xsize (grid1.coords t) 0 = 4096 ∧ (win1_5.xsize (grid1.coords t) 1 = if t.val = 32 then 511 else 1024) := by
  decide +kernel

/-- The whole windows' blocks start at the origin. -/
theorem wholes : ∀ t : Fin grid1.N, ∀ a : Fin 2, win1_0.index t a = 0 ∧ win1_1.index t a = 0 ∧ win1_2.index t a = 0 := by decide +kernel

/-- A block column that starts inside the array, on its part inside, is below the cut. -/
theorem lt_cut {n y : ℕ} (hy : y < 1024) (h : n * 1024 + y < 33279) : y < if n = 32 then 511 else 1024 := by
  split <;> omega

/-- What a fetch of window 3 leaves agrees with the second weights on every column inside the array. -/
theorem fetch3 (t : Fin cfg1.N) (w : S100x33279.Idx → F .bf16) (d : S100x1024.Idx → F .bf16) (k : Fin 100) (y : Fin 1024)
    (h : t.val * 1024 + y.val < 33279) :
    win1_3.fill (grid1.coords t) d ((win1_3.blk t).view.read (Elt F) w) (Shape.pair (d := ![100, 1024]) k y)
      = w (Shape.pair (d := ![100, 33279]) k ⟨t.val * 1024 + y.val, h⟩) := by
  obtain ⟨i0, i1, x0, x1, -⟩ := cuts t
  have hm : win1_3.moved (grid1.coords t) (Shape.pair (d := ![100, 1024]) k y) = true := by
    rw [Pipeline.Window.moved_iff]
    intro a
    match a with
    | ⟨0, _⟩ => exact lt_of_lt_of_eq k.isLt x0.symm
    | ⟨1, _⟩ => exact lt_of_lt_of_eq (lt_cut y.isLt h) x1.symm
  unfold Pipeline.Window.fill
  rw [dif_pos hm, View.read_apply, cast_eq]
  refine congrArg w (funext fun a => ?_)
  match a with
  | ⟨0, _⟩ =>
    refine Fin.ext ?_
    show win1_3.index t 0 * 100 + 1 * k.val = k.val
    rw [i0]; omega
  | ⟨1, _⟩ =>
    refine Fin.ext ?_
    show win1_3.index t 1 * 1024 + 1 * y.val = t.val * 1024 + y.val
    rw [i1]; omega

/-- What a fetch of window 4 leaves agrees with the second bias on every column inside the array. -/
theorem fetch4 (t : Fin cfg1.N) (b : S1x33279.Idx → F .f32) (d : S1x1024.Idx → F .f32) (k : Fin 1) (y : Fin 1024)
    (h : t.val * 1024 + y.val < 33279) :
    win1_4.fill (grid1.coords t) d ((win1_4.blk t).view.read (Elt F) b) (Shape.pair (d := ![1, 1024]) k y)
      = b (Shape.pair (d := ![1, 33279]) k ⟨t.val * 1024 + y.val, h⟩) := by
  obtain ⟨-, -, -, -, i0, i1, x0, x1, -⟩ := cuts t
  have hm : win1_4.moved (grid1.coords t) (Shape.pair (d := ![1, 1024]) k y) = true := by
    rw [Pipeline.Window.moved_iff]
    intro a
    match a with
    | ⟨0, _⟩ => exact lt_of_lt_of_eq k.isLt x0.symm
    | ⟨1, _⟩ => exact lt_of_lt_of_eq (lt_cut y.isLt h) x1.symm
  unfold Pipeline.Window.fill
  rw [dif_pos hm, View.read_apply, cast_eq]
  refine congrArg b (funext fun a => ?_)
  match a with
  | ⟨0, _⟩ =>
    refine Fin.ext ?_
    show win1_4.index t 0 * 1 + 1 * k.val = k.val
    rw [i0]; omega
  | ⟨1, _⟩ =>
    refine Fin.ext ?_
    show win1_4.index t 1 * 1024 + 1 * y.val = t.val * 1024 + y.val
    rw [i1]; omega

/-- A fetch of window 0 leaves the whole array. -/
theorem fetch0 (t : Fin cfg1.N) (f : S4096x256.Idx → F .f32) (d : S4096x256.Idx → F .f32) :
    win1_0.fill (grid1.coords t) d ((win1_0.blk t).view.read (Elt F) f) = f := by
  funext j
  have hm : win1_0.moved (grid1.coords t) j = true := by
    rw [Pipeline.Window.moved_iff]; exact fun a => (j a).isLt
  unfold Pipeline.Window.fill
  rw [dif_pos hm, View.read_apply, cast_eq]
  refine congrArg f (funext fun a => Fin.ext ?_)
  show win1_0.index t a * S4096x256.size a + 1 * (j a).val = (j a).val
  rw [(wholes t a).1]; omega

/-- A fetch of window 1 leaves the whole array. -/
theorem fetch1 (t : Fin cfg1.N) (f : S256x100.Idx → F .f32) (d : S256x100.Idx → F .f32) :
    win1_1.fill (grid1.coords t) d ((win1_1.blk t).view.read (Elt F) f) = f := by
  funext j
  have hm : win1_1.moved (grid1.coords t) j = true := by
    rw [Pipeline.Window.moved_iff]; exact fun a => (j a).isLt
  unfold Pipeline.Window.fill
  rw [dif_pos hm, View.read_apply, cast_eq]
  refine congrArg f (funext fun a => Fin.ext ?_)
  show win1_1.index t a * S256x100.size a + 1 * (j a).val = (j a).val
  rw [(wholes t a).2.1]; omega

/-- A fetch of window 2 leaves the whole array. -/
theorem fetch2 (t : Fin cfg1.N) (f : S1x100.Idx → F .f32) (d : S1x100.Idx → F .f32) :
    win1_2.fill (grid1.coords t) d ((win1_2.blk t).view.read (Elt F) f) = f := by
  funext j
  have hm : win1_2.moved (grid1.coords t) j = true := by
    rw [Pipeline.Window.moved_iff]; exact fun a => (j a).isLt
  unfold Pipeline.Window.fill
  rw [dif_pos hm, View.read_apply, cast_eq]
  refine congrArg f (funext fun a => Fin.ext ?_)
  show win1_2.index t a * S1x100.size a + 1 * (j a).val = (j a).val
  rw [(wholes t a).2.2]; omega

/-- A write-back of window 5 at point `t` puts the block's column `y` at the array's column `1024 t + y`, -/
theorem write5_in (t : Fin cfg1.N) (G : S4096x33279.Idx → F .f32) (X : S4096x1024.Idx → F .f32) (i : Fin 4096) (y : Fin 1024)
    (h : t.val * 1024 + y.val < 33279) :
    (win1_5.blk t).view.write (Elt F) G (win1_5.cut (grid1.coords t) X) Finset.univ (Shape.pair (d := ![4096, 33279]) i ⟨t.val * 1024 + y.val, h⟩)
      = X (Shape.pair (d := ![4096, 1024]) i y) := by
  obtain ⟨-, -, -, -, -, -, -, -, i0, i1, x0, x1⟩ := cuts t
  let j : (win1_5.xblock (grid1.coords t)).Idx := fun a => match a with
    | ⟨0, _⟩ => ⟨i.val, lt_of_lt_of_eq i.isLt x0.symm⟩
    | ⟨1, _⟩ => ⟨y.val, lt_of_lt_of_eq (lt_cut y.isLt h) x1.symm⟩
  have hj : (win1_5.blk t).view.emb j = Shape.pair (d := ![4096, 33279]) i ⟨t.val * 1024 + y.val, h⟩ := by
    funext a
    match a with
    | ⟨0, _⟩ =>
      refine Fin.ext ?_
      show win1_5.index t 0 * 4096 + 1 * i.val = i.val
      rw [i0]; omega
    | ⟨1, _⟩ =>
      refine Fin.ext ?_
      show win1_5.index t 1 * 1024 + 1 * y.val = t.val * 1024 + y.val
      rw [i1]; omega
  rw [← hj, View.write_emb_of_mem _ _ (Finset.mem_univ j), cast_eq]
  refine congrArg X (funext fun a => ?_)
  match a with
  | ⟨0, _⟩ => rfl
  | ⟨1, _⟩ => rfl

/-- and changes no column of another block. -/
theorem write5_off (t : Fin cfg1.N) (G : S4096x33279.Idx → F .f32) (X : S4096x1024.Idx → F .f32) (i : Fin 4096) (n : Fin 33279)
    (h : n.val < t.val * 1024) :
    (win1_5.blk t).view.write (Elt F) G (win1_5.cut (grid1.coords t) X) Finset.univ (Shape.pair (d := ![4096, 33279]) i n)
      = G (Shape.pair (d := ![4096, 33279]) i n) := by
  obtain ⟨-, -, -, -, -, -, -, -, i0, i1, x0, x1⟩ := cuts t
  refine View.write_of_not_mem _ _ _ fun hmem => ?_
  rw [View.setOn_univ] at hmem
  obtain ⟨j, -, hj⟩ := Finset.mem_map.mp hmem
  have h1 : win1_5.index t 1 * 1024 + 1 * (j 1).val = n.val := congrArg Fin.val (congrFun hj 1)
  rw [i1] at h1
  omega

end Cert.Proof.KernelIdeal
-- ==== Proof.Region.lean ====
/-
  The dense kernel's region over the windows' blocks: what each grid point finds and leaves, the body's obligation, what
  the result array holds at the end, and the region itself.
-/
module

public import proofs.«01_k».proof.Proof.Mlp
public import Idealize.ShloMosaic.Lib.Pipeline.RegionArrays

@[expose] public section

noncomputable section

namespace Cert.Proof.KernelIdeal

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (RDat)

variable {F : FTy → Type} [FloatOps F]

local notation "𝕄" => MT nD τ sig (HIx 1) (Elt F) ℕ UU ℕ

/-! ## What a grid point leaves -/

section Data

variable (e : Dev nD → S4096x256.Idx → F .f32) (w₁ : Dev nD → S256x100.Idx → F .f32) (b₁ : Dev nD → S1x100.Idx → F .f32)
  (w₂ : Dev nD → S100x33279.Idx → F .bf16) (b₂ : Dev nD → S1x33279.Idx → F .f32) (r₀ : Dev nD → S4096x33279.Idx → F .f32)

/-- A block `u` of weights that agrees with `w` on the columns of block `n` inside the array. -/
def WAgree (w : S100x33279.Idx → F .bf16) (n : ℕ) (u : S100x1024.Idx → F .bf16) : Prop :=
  ∀ (k : Fin 100) (y : Fin 1024) (h : n * 1024 + y.val < 33279),
    u (Shape.pair (d := ![100, 1024]) k y) = w (Shape.pair (d := ![100, 33279]) k ⟨n * 1024 + y.val, h⟩)

/-- A block `u` of the bias that agrees with `b` on the columns of block `n` inside the array. -/
def BAgree (b : S1x33279.Idx → F .f32) (n : ℕ) (u : S1x1024.Idx → F .f32) : Prop :=
  ∀ (k : Fin 1) (y : Fin 1024) (h : n * 1024 + y.val < 33279),
    u (Shape.pair (d := ![1, 1024]) k y) = b (Shape.pair (d := ![1, 33279]) k ⟨n * 1024 + y.val, h⟩)

/-- What may be left as block `n` of the result, of a hidden layer `h`: the output block of some blocks that agree with the
    weights and the bias inside the arrays. -/
def OutRel (h : S4096x100.Idx → F .bf16) (w : S100x33279.Idx → F .bf16) (b : S1x33279.Idx → F .f32) (n : ℕ)
    (X : S4096x1024.Idx → F .f32) : Prop :=
  ∃ u v, WAgree w n u ∧ BAgree b n v ∧ X = outBlock h u v

/-- What the first `n` write-backs leave in the result: on the columns of each block inside the array, what may be left
    as that block. -/
def Done (h : S4096x100.Idx → F .bf16) (w : S100x33279.Idx → F .bf16) (b : S1x33279.Idx → F .f32) (n : ℕ)
    (G : S4096x33279.Idx → F .f32) : Prop :=
  ∀ t < n, ∃ X, OutRel h w b t X ∧ ∀ (i : Fin 4096) (y : Fin 1024) (hy : t * 1024 + y.val < 33279),
    G (Shape.pair (d := ![4096, 33279]) i ⟨t * 1024 + y.val, hy⟩) = X (Shape.pair (d := ![4096, 1024]) i y)

/-- The hidden layer on a device. -/
abbrev hid (c : Dev nD) : S4096x100.Idx → F .bf16 := hidden (e c) (w₁ c) (b₁ c)

/-- The scratch buffer, whole, at contents `f`. -/
abbrev scrPts (c : Dev nD) (f : S4096x100.Idx → F .bf16) : sProp 𝕄 := owns (c : Thread nD τ) (Memref.whole cc1_scratch0) fullShare f

/-- The region's proof data on a device: the arrays at what they hold at entry; at the result's window what a point leaves is
    related to the blocks it was handed; before the first point the scratch holds something, after it the hidden layer. -/
def rdat (c : Dev nD) : RDat τ (Elt F) (HIx 1) ℕ UU ℕ cfg1 c where
  A w := match w with
    | ⟨0, _⟩ => e c
    | ⟨1, _⟩ => w₁ c
    | ⟨2, _⟩ => b₁ c
    | ⟨3, _⟩ => w₂ c
    | ⟨4, _⟩ => b₂ c
    | ⟨5, _⟩ => r₀ c
  after w t _ X := match w, X with
    | ⟨5, _⟩, X => OutRel (hid e w₁ b₁ c) (w₂ c) (b₂ c) t.val X
    | _, _ => True
  Φ t := if t.val = 0 then iprop(∃ f, scrPts c f) else scrPts c (hid e w₁ b₁ c)
  q _ := fullShare
  owed _ := 0

/-- What each of the region's points finds in the cut windows. -/
theorem finds34 (c : Dev nD) (t : Fin cfg1.N) (Y3 : S100x1024.Idx → F .bf16) (Y4 : S1x1024.Idx → F .f32)
    (h3 : (rdat e w₁ b₁ w₂ b₂ r₀ c).Finds 3 t Y3) (h4 : (rdat e w₁ b₁ w₂ b₂ r₀ c).Finds 4 t Y4) :
    WAgree (w₂ c) t.val Y3 ∧ BAgree (b₂ c) t.val Y4 := by
  obtain ⟨d3, rfl⟩ := (RDat.finds_of_fetch _ (fetch1_3 t) _).mp h3
  obtain ⟨d4, rfl⟩ := (RDat.finds_of_fetch _ (fetch1_4 t) _).mp h4
  exact ⟨fun k y h => fetch3 t (w₂ c) d3 k y h, fun k y h => fetch4 t (b₂ c) d4 k y h⟩

/-- What the first point finds in the whole windows. -/
theorem finds012 (c : Dev nD) (t : Fin cfg1.N) (ht : t.val = 0) (Y0 : S4096x256.Idx → F .f32) (Y1 : S256x100.Idx → F .f32)
    (Y2 : S1x100.Idx → F .f32) (h0 : (rdat e w₁ b₁ w₂ b₂ r₀ c).Finds 0 t Y0) (h1 : (rdat e w₁ b₁ w₂ b₂ r₀ c).Finds 1 t Y1)
    (h2 : (rdat e w₁ b₁ w₂ b₂ r₀ c).Finds 2 t Y2) : Y0 = e c ∧ Y1 = w₁ c ∧ Y2 = b₁ c := by
  have hz : t.val % 33 = 0 := by omega
  obtain ⟨d0, rfl⟩ := (RDat.finds_of_fetch _ ((fetch1_0 t).mpr hz) _).mp h0
  obtain ⟨d1, rfl⟩ := (RDat.finds_of_fetch _ ((fetch1_1 t).mpr hz) _).mp h1
  obtain ⟨d2, rfl⟩ := (RDat.finds_of_fetch _ ((fetch1_2 t).mpr hz) _).mp h2
  exact ⟨fetch0 t (e c) d0, fetch1 t (w₁ c) d1, fetch2 t (b₁ c) d2⟩

/-- Before the first point the scratch holds something; -/
theorem Φ_first (c : Dev nD) (t : Fin cfg1.N) (ht : t.val = 0) :
    (rdat e w₁ b₁ w₂ b₂ r₀ c).Φ t.castSucc = iprop(∃ f, scrPts c f) := if_pos ht

/-- before a later point, the hidden layer; -/
theorem Φ_later (c : Dev nD) (t : Fin cfg1.N) (ht : t.val ≠ 0) :
    (rdat e w₁ b₁ w₂ b₂ r₀ c).Φ t.castSucc = scrPts c (hid e w₁ b₁ c) := if_neg ht

/-- and after any point too. -/
theorem Φ_after (c : Dev nD) (t : Fin cfg1.N) :
    (rdat e w₁ b₁ w₂ b₂ r₀ c).Φ t.succ = scrPts c (hid e w₁ b₁ c) := by
  have h : ¬(t.succ : Fin (cfg1.N + 1)).val = 0 := Nat.succ_ne_zero t.val
  show (if (t.succ : Fin (cfg1.N + 1)).val = 0 then iprop(∃ f, scrPts c f) else scrPts c (hid e w₁ b₁ c)) = _
  rw [if_neg h]

/-- The body's obligation at every point. -/
theorem body_ok (c : Dev nD) : (rdat e w₁ b₁ w₂ b₂ r₀ c).BodyObligation (defs₀ (F := F)) 𝒱₀ (none : HIx 1) Set.univ := fun t Y hY => by
  have hout := finds34 e w₁ b₁ w₂ b₂ r₀ c t (Y 3) (Y 4) (hY 3) (hY 4)
  rw [bigSep_W1, bigSep_W1, Φ_after]
  by_cases ht : t.val = 0
  · obtain ⟨e0, e1, e2⟩ := finds012 e w₁ b₁ w₂ b₂ r₀ c t ht (Y 0) (Y 1) (Y 2) (hY 0) (hY 1) (hY 2)
    rw [Φ_first e w₁ b₁ w₂ b₂ r₀ c t ht]
    iintro ⟨⟨%f, HΦ⟩, HO, H0, H1, H2, H3, H4, H5⟩
    iapply (body_first (F := F) c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5))
      (Memref.whole cc1_scratch0) (Memref.isWhole_whole _) (Y 0) (Y 1) (Y 2) (Y 3) (Y 4) (Y 5) f _ ((guard_iff t).mpr ht))
    isplitl [HΦ H0 H1 H2 H3 H4 H5]
    · isplitl [H0]; · iexact H0
      isplitl [H1]; · iexact H1
      isplitl [H2]; · iexact H2
      isplitl [H3]; · iexact H3
      isplitl [H4]; · iexact H4
      isplitl [H5]; · iexact H5
      iexact HΦ
    iintro ⟨H0, H1, H2, H3, H4, H5, HΦ⟩
    isplitl [HΦ]
    · rw [show hid e w₁ b₁ c = hidden (Y 0) (Y 1) (Y 2) from by rw [e0, e1, e2]]; iexact HΦ
    isplitl [HO]; · iexact HO
    isplitl [H0]; · iexists (Y 0); isplitr; · ipureintro; trivial
                    iexact H0
    isplitl [H1]; · iexists (Y 1); isplitr; · ipureintro; trivial
                    iexact H1
    isplitl [H2]; · iexists (Y 2); isplitr; · ipureintro; trivial
                    iexact H2
    isplitl [H3]; · iexists (Y 3); isplitr; · ipureintro; trivial
                    iexact H3
    isplitl [H4]; · iexists (Y 4); isplitr; · ipureintro; trivial
                    iexact H4
    iexists _
    isplitr [H5]
    on_goal 2 => iexact H5
    ipureintro
    rw [e0, e1, e2]
    exact ⟨Y 3, Y 4, hout.1, hout.2, rfl⟩
  · rw [Φ_later e w₁ b₁ w₂ b₂ r₀ c t ht]
    iintro ⟨HΦ, HO, H0, H1, H2, H3, H4, H5⟩
    iapply (body_later (F := F) c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5))
      (Memref.whole cc1_scratch0) (Memref.isWhole_whole _) (Y 3) (Y 4) (Y 5) (hid e w₁ b₁ c) _ (fun h => ht ((guard_iff t).mp h)))
    isplitl [HΦ H3 H4 H5]
    · isplitl [H3]; · iexact H3
      isplitl [H4]; · iexact H4
      isplitl [H5]; · iexact H5
      iexact HΦ
    iintro ⟨H3, H4, H5, HΦ⟩
    isplitl [HΦ]; · iexact HΦ
    isplitl [HO]; · iexact HO
    isplitl [H0]; · iexists (Y 0); isplitr; · ipureintro; trivial
                    iexact H0
    isplitl [H1]; · iexists (Y 1); isplitr; · ipureintro; trivial
                    iexact H1
    isplitl [H2]; · iexists (Y 2); isplitr; · ipureintro; trivial
                    iexact H2
    isplitl [H3]; · iexists (Y 3); isplitr; · ipureintro; trivial
                    iexact H3
    isplitl [H4]; · iexists (Y 4); isplitr; · ipureintro; trivial
                    iexact H4
    iexists _
    isplitr [H5]
    on_goal 2 => iexact H5
    ipureintro
    exact ⟨Y 3, Y 4, hout.1, hout.2, rfl⟩

/-- What the write-backs leave in the result, point by point. -/
theorem done_of_arrAt (c : Dev nD) : ∀ n ≤ 33, ∀ G : S4096x33279.Idx → F .f32, (rdat e w₁ b₁ w₂ b₂ r₀ c).ArrAt 5 n G →
    Done (hid e w₁ b₁ c) (w₂ c) (b₂ c) n G := by
  intro n
  induction n with
  | zero => exact fun _ _ _ t ht => absurd ht (Nat.not_lt_zero t)
  | succ n ih =>
    intro hn G hG t ht
    have hs := RDat.ArrAt_succ (rdat e w₁ b₁ w₂ b₂ r₀ c) 5 ⟨n, hn⟩
    rw [if_pos (flush1_5 ⟨n, hn⟩)] at hs
    obtain ⟨G₀, X, hG₀, ⟨Y, -, hX⟩, hGX⟩ := (congrFun hs G).mp hG
    have hX' : OutRel (hid e w₁ b₁ c) (w₂ c) (b₂ c) n X := hX
    subst hGX
    rcases Nat.lt_succ_iff_lt_or_eq.mp ht with hlt | rfl
    · obtain ⟨X', hX', hG'⟩ := ih (Nat.le_of_succ_le hn) G₀ hG₀ t hlt
      exact ⟨X', hX', fun i y hy => (write5_off ⟨n, hn⟩ G₀ X i ⟨t * 1024 + y.val, hy⟩
        (show t * 1024 + y.val < n * 1024 by have := y.isLt; omega)).trans (hG' i y hy)⟩
    · exact ⟨X, hX', fun i y hy => write5_in ⟨t, hn⟩ G₀ X i y hy⟩

end Data

end Cert.Proof.KernelIdeal
-- ==== Proof.Seg.lean ====
/-
  The dense kernel's region as @main runs it: entered from its six arrays and the core's empty debt, left with the inputs
  as they were and the result described block by block.
-/
module

public import proofs.«01_k».proof.Proof.Region

@[expose] public section

noncomputable section

namespace Cert.Proof.KernelIdeal

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (RDat)

variable {F : FTy → Type} [FloatOps F]

local notation "𝕄" => MT nD τ sig (HIx 1) (Elt F) ℕ UU ℕ

section Data

variable (e : Dev nD → S4096x256.Idx → F .f32) (w₁ : Dev nD → S256x100.Idx → F .f32) (b₁ : Dev nD → S1x100.Idx → F .f32)
  (w₂ : Dev nD → S100x33279.Idx → F .bf16) (b₂ : Dev nD → S1x33279.Idx → F .f32) (r₀ : Dev nD → S4096x33279.Idx → F .f32)

/-- The region's input arrays, whole. -/
abbrev insPts (c : Dev nD) : sProp 𝕄 :=
  iprop((((c : Thread nD τ).loc main_v3) ↦{fullShare} e c) ∗ (((c : Thread nD τ).loc main_arg2) ↦{fullShare} w₁ c)
    ∗ (((c : Thread nD τ).loc main_v4) ↦{fullShare} b₁ c) ∗ (((c : Thread nD τ).loc main_v5) ↦{fullShare} w₂ c)
    ∗ (((c : Thread nD τ).loc main_v6) ↦{fullShare} b₂ c))

/-- The result array, whole, at contents `G`. -/
abbrev resPts (c : Dev nD) (G : S4096x33279.Idx → F .f32) : sProp 𝕄 := ((c : Thread nD τ).loc main_v7) ↦{fullShare} G

/-- The core's empty debt. -/
abbrev noDebt (c : Dev nD) : sProp 𝕄 := iprop(∃ W, owes (c : Thread nD τ) (0 : CellTallies nD τ sig (HIx 1)) W)

/-- The arrays at entry, one by one. -/
theorem arrays_entry (c : Dev nD) : (rdat e w₁ b₁ w₂ b₂ r₀ c).arrays (rdat e w₁ b₁ w₂ b₂ r₀ c).A
    = iprop((((c : Thread nD τ).loc main_v3) ↦{fullShare} e c) ∗ (((c : Thread nD τ).loc main_arg2) ↦{fullShare} w₁ c)
    ∗ (((c : Thread nD τ).loc main_v4) ↦{fullShare} b₁ c) ∗ (((c : Thread nD τ).loc main_v5) ↦{fullShare} w₂ c)
    ∗ (((c : Thread nD τ).loc main_v6) ↦{fullShare} b₂ c) ∗ resPts c (r₀ c)) := by
  unfold RDat.arrays
  rw [bigSep_W1]
  simp only [View.set_whole, Memref.view_whole]
  rfl

/-- One input array at the end: as at entry. -/
theorem arr_in (c : Dev nD) (w : Fin cfg1.W) (hw : (cfg1.win w).isOut = false) (n : ℕ) :
    iprop(∃ G, ⌜(rdat e w₁ b₁ w₂ b₂ r₀ c).ArrAt w n G⌝
      ∗ ((cfg1.win w).arr.view.loc (c : Thread nD τ) ↦[(cfg1.win w).arr.view.set]{(rdat e w₁ b₁ w₂ b₂ r₀ c).share w} G : sProp 𝕄))
      ⊢ ((cfg1.win w).arr.view.loc (c : Thread nD τ) ↦[(cfg1.win w).arr.view.set]{(rdat e w₁ b₁ w₂ b₂ r₀ c).share w}
        (rdat e w₁ b₁ w₂ b₂ r₀ c).A w : sProp 𝕄) := by
  rw [RDat.ArrAt_in _ w hw n]
  iintro ⟨%G, %hG, H⟩
  subst hG
  iexact H

/-- The arrays after the last point: the inputs as they were, the result described block by block. -/
theorem arrays_exit (c : Dev nD) : (rdat e w₁ b₁ w₂ b₂ r₀ c).arraysAt cfg1.N
    ⊢ iprop(insPts e w₁ b₁ w₂ b₂ c ∗ ∃ G, ⌜Done (hid e w₁ b₁ c) (w₂ c) (b₂ c) 33 G⌝ ∗ resPts c G) := by
  have a0 := arr_in e w₁ b₁ w₂ b₂ r₀ c 0 rfl cfg1.N
  have a1 := arr_in e w₁ b₁ w₂ b₂ r₀ c 1 rfl cfg1.N
  have a2 := arr_in e w₁ b₁ w₂ b₂ r₀ c 2 rfl cfg1.N
  have a3 := arr_in e w₁ b₁ w₂ b₂ r₀ c 3 rfl cfg1.N
  have a4 := arr_in e w₁ b₁ w₂ b₂ r₀ c 4 rfl cfg1.N
  unfold RDat.arraysAt
  rw [bigSep_W1]
  simp only [View.set_whole, Memref.view_whole] at a0 a1 a2 a3 a4 ⊢
  iintro ⟨H0, H1, H2, H3, H4, ⟨%G, %hG, H5⟩⟩
  isplitl [H0 H1 H2 H3 H4]
  · isplitl [H0]; · iapply a0; iexact H0
    isplitl [H1]; · iapply a1; iexact H1
    isplitl [H2]; · iapply a2; iexact H2
    isplitl [H3]; · iapply a3; iexact H3
    iapply a4; iexact H4
  iexists G
  isplitr
  · ipureintro; exact done_of_arrAt e w₁ b₁ w₂ b₂ r₀ c 33 le_rfl G hG
  iexact H5

/-- The one pipeline's admissible tables. -/
abbrev adm : (p : Fin 1) → (pcfgs (F := F) p).Adm := fun p => (cfgs p).toPCfg_adm

/-- The proof data of every pipeline: there is one. -/
def rdats : (p : Fin 1) → (c : Dev nD) → RDat τ (Elt F) (HIx 1) ℕ UU ℕ (Pipeline.pin (pcfgs (F := F)) adm p) c
  | ⟨0, _⟩ => fun c => rdat e w₁ b₁ w₂ b₂ r₀ c

set_option backward.isDefEq.respectTransparency.types false in
/-- The region. -/
def seg : RDat.RegionSeg (pcfgs (F := F)) adm (rdats e w₁ b₁ w₂ b₂ r₀) (none : HIx 1) (defs₀ (F := F)) 𝒱₀ (K (F := F)).L (K (F := F)).lev 0 where
  win := launch1.win.to₀
  block_pos := launch1.block_pos
  stage_whole := launch1.stage_whole
  K := PEmpty
  osem k := k.elim
  ho := Pipeline.OwnSemFacts.none _
  hbody c := body_ok e w₁ b₁ w₂ b₂ r₀ c
  hwaits c := (show (levAts (K (F := F)).L (K (F := F)).lev : sProp 𝕄) ⊢ BI.emp from by iintro -; iempintro).trans
    (RDat.cellsWaits_of_owed_zero (Pipeline.pin (pcfgs (F := F)) adm) (rdats e w₁ b₁ w₂ b₂ r₀) none 0 c fun _ => rfl)
  pre c := iprop((insPts e w₁ b₁ w₂ b₂ c ∗ resPts c (r₀ c)) ∗ noDebt c)
  post c := iprop((insPts e w₁ b₁ w₂ b₂ c ∗ ∃ G, ⌜Done (hid e w₁ b₁ c) (w₂ c) (b₂ c) 33 G⌝ ∗ resPts c G) ∗ noDebt c)
  X _ := BI.emp
  Y _ := BI.emp
  Z _ := BI.emp
  hentry c := by
    rw [Pipeline.ownSems0_none]
    have ha := arrays_entry e w₁ b₁ w₂ b₂ r₀ c
    iintro ⟨⟨⟨⟨H0, H1, H2, H3, H4⟩, H5⟩, HO⟩, -, -⟩
    imodintro
    isplitl [H0 H1 H2 H3 H4 H5]
    · iapply (Entails.of_eq ha.symm)
      isplitl [H0]; · iexact H0
      isplitl [H1]; · iexact H1
      isplitl [H2]; · iexact H2
      isplitl [H3]; · iexact H3
      isplitl [H4]; · iexact H4
      iexact H5
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitr <;> iempintro
  hin c := by
    rw [show (rdats e w₁ b₁ w₂ b₂ r₀ 0 c).Φ 0 = iprop(∃ f, scrPts c f) from rfl]
    have hr := scopedRest1_eq (Ix := HIx 1) (Val := Elt F) (Name := ℕ) (U := UU) (Lvl := ℕ) c
    iintro ⟨-, -, Hr⟩
    ihave Hr' := (Entails.of_eq hr) $$ Hr
    icases Hr' with ⟨%f, Hr⟩
    iexists f
    iapply (Entails.of_eq (owns_whole (c : Thread nD τ) cc1_scratch0 fullShare f).symm)
    iexact Hr
  hout c := by
    rw [Pipeline.ownSems0_none, show (rdats e w₁ b₁ w₂ b₂ r₀ 0 c).Φ (Fin.last _) = scrPts c (hid e w₁ b₁ c) from rfl]
    have hr := scopedRest1_eq (Ix := HIx 1) (Val := Elt F) (Name := ℕ) (U := UU) (Lvl := ℕ) c
    iintro Hr
    isplitr; · iempintro
    isplitr; · iempintro
    iapply (Entails.of_eq hr.symm)
    iexists (hid e w₁ b₁ c)
    iapply (Entails.of_eq (owns_whole (c : Thread nD τ) cc1_scratch0 fullShare (hid e w₁ b₁ c)))
    iexact Hr
  hexit c := by
    have ha := arrays_exit e w₁ b₁ w₂ b₂ r₀ c
    iintro ⟨Ha, HO, -, -⟩
    imodintro
    isplitl [Ha]; · iapply ha; iexact Ha
    unfold RDat.owesAt Pipeline.owesWithin
    icases HO with ⟨%W, -, HO⟩; iexists W; iexact HO

end Data

end Cert.Proof.KernelIdeal
-- ==== Proof.Launch.lean ====
/-
  @main's run: the host's reshapes and its cast, the gather on the SparseCores, the dense kernel's region, and what the run
  leaves in every argument and in the result.
-/
module

public import proofs.«01_k».proof.Proof.Join
public import proofs.«01_k».proof.Proof.Seg

@[expose] public section

noncomputable section

namespace Cert.Proof.KernelIdeal

open Cert.KernelIdeal Cert.KernelIdeal.Gen
open Idealize.ShloMosaic Idealize.ShloMosaic.SparseCore
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.StableHlo (held wp_hlo_within)
open Idealize.ShloMosaic.Pipeline (RDat)

variable {F : FTy → Type} [FloatOps F]

local notation "𝕄" => MT nD τ sig (HIx 1) (Elt F) ℕ UU ℕ

/-! ## A host operation from one array to another -/

/-- A host operation that reads `x` and writes `y`: `x` is kept and `y` comes to hold what the operation says. -/
theorem wp_one (d : Dev nD) (op : HloOp τ sig (Elt F)) (x y : Ref sig .tc)
    (hxy : (Proc.devRef .tc x : DevRef τ sig) ≠ Proc.devRef .tc y) (hb : op.bufs = {Proc.devRef .tc x, Proc.devRef .tc y})
    (hw : op.writes = {Proc.devRef .tc y}) (hf : op.fresh = ∅) (V : Valuation τ sig (Elt F))
    (f : (Proc.devRef .tc x : DevRef τ sig).ty.Contents (Elt F)) (g h : (Proc.devRef .tc y : DevRef τ sig).ty.Contents (Elt F))
    (hr : ∀ W : Valuation τ sig (Elt F), W (Proc.devRef .tc x) = f → op.result W (Proc.devRef .tc y) = h)
    {k : ((b : op.writes) → b.1.ty.Contents (Elt F)) → Prog (TpuEff nD τ sig (Elt F) (SparseCore.Sig (ΛP (F := F)) 1) .tc) PUnit}
    (Q : PUnit → sProp 𝕄) :
    iprop(boundary (SparseCore.T d : Thread nD τ) ∗ ((SparseCore.T d).loc x ↦{fullShare} f) ∗ ((SparseCore.T d).loc y ↦{fullShare} g))
      ⊢ iprop((∀ r, (boundary (SparseCore.T d : Thread nD τ) ∗ ((SparseCore.T d).loc x ↦{fullShare} f) ∗ ((SparseCore.T d).loc y ↦{fullShare} h))
          -∗ wp frame (wpE ((K (F := F)).defs (D (F := F))) 𝒱 (SparseCore.T d) none) Set.univ (k r) Q)
        -∗ wp frame (wpE ((K (F := F)).defs (D (F := F))) 𝒱 (SparseCore.T d) none) Set.univ (hlo rfl op k) Q) := by
  have hheld : ∀ W : Valuation τ sig (Elt F), (held (SparseCore.T d : Thread nD τ) {Proc.devRef .tc x, Proc.devRef .tc y} W : sProp 𝕄)
      = iprop(((SparseCore.T d).loc x ↦{fullShare} W (Proc.devRef .tc x)) ∗ ((SparseCore.T d).loc y ↦{fullShare} W (Proc.devRef .tc y))) := by
    intro W
    unfold held
    rw [SparseCore.bigSep_insert' (by simpa using hxy), bigSep_singleton]
  have hx : Function.update (Function.update V (Proc.devRef .tc x) f) (Proc.devRef .tc y) g (Proc.devRef .tc x) = f := by
    rw [Function.update_of_ne hxy, Function.update_self]
  have hy : Function.update (Function.update V (Proc.devRef .tc x) f) (Proc.devRef .tc y) g (Proc.devRef .tc y) = g :=
    Function.update_self _ _ _
  have hpre : iprop(((SparseCore.T d).loc x ↦{fullShare} f) ∗ ((SparseCore.T d).loc y ↦{fullShare} g))
      ⊢ (held (SparseCore.T d : Thread nD τ) {Proc.devRef .tc x, Proc.devRef .tc y}
          (Function.update (Function.update V (Proc.devRef .tc x) f) (Proc.devRef .tc y) g) : sProp 𝕄) := by
    rw [hheld, hx, hy]
  have hpost : (held (SparseCore.T d : Thread nD τ) {Proc.devRef .tc x, Proc.devRef .tc y}
          (op.result (Function.update (Function.update V (Proc.devRef .tc x) f) (Proc.devRef .tc y) g)) : sProp 𝕄)
      ⊢ iprop(((SparseCore.T d).loc x ↦{fullShare} f) ∗ ((SparseCore.T d).loc y ↦{fullShare} h)) := by
    rw [hheld, op.result_of_not_mem _ (show (Proc.devRef .tc x : DevRef τ sig) ∉ op.writes by rw [hw]; simpa using hxy), hx, hr _ hx]
  iintro ⟨Hb, H⟩ Hk
  iapply (wp_hlo_within 𝒱 (SparseCore.T d) none Set.univ (op := op) (S := {Proc.devRef .tc x, Proc.devRef .tc y}) hb.le
    (V := Function.update (Function.update V (Proc.devRef .tc x) f) (Proc.devRef .tc y) g) (hf := hf)) $$ [Hb H]
  · isplitl [Hb]; · iexact Hb
    iapply hpre; iexact H
  iintro ⟨Hb, H⟩
  ispecialize Hk $$ %(op.fn fun b => Function.update (Function.update V (Proc.devRef .tc x) f) (Proc.devRef .tc y) g b.1)
  iapply Hk
  isplitl [Hb]; · iexact Hb
  iapply hpost; iexact H

/-! ## What @main computes on the host -/

/-- The index matrix the gather reads: the index pairs, read row by row. -/
def ixOf (a : S4096x2.Idx → BitVec 32) : S64x128.Idx → BitVec 32 :=
  shapeCast S64x128 (shapeCast S8192 a shapeCasts_S4096x2_S8192) shapeCasts_S8192_S64x128
/-- The embedded rows the dense kernel reads: two gathered rows side by side. -/
def embOf (g : S8192x128.Idx → F .f32) : S4096x256.Idx → F .f32 :=
  shapeCast S4096x256 g shapeCasts_S8192x128_S4096x256
/-- The first bias as one row. -/
def b₁Of (b : S100.Idx → F .f32) : S1x100.Idx → F .f32 := shapeCast S1x100 b shapeCasts_S100_S1x100
/-- The second weights, cast. -/
def w₂Of (w : S100x33279.Idx → F .f32) : S100x33279.Idx → F .bf16 := truncf .bf16 w bitsLt_bf16_f32
/-- The second bias as one row. -/
def b₂Of (b : S33279.Idx → F .f32) : S1x33279.Idx → F .f32 := shapeCast S1x33279 b shapeCasts_S33279_S1x33279

section Run

variable (m : (ℓ : Loc nD τ sig) → Buf (Elt F) ℓ) (ρ : Dev nD → PrngReg)

/-- The launch memory read at @main's buffers, device by device. -/
abbrev A0 (d : Dev nD) : S4096x2.Idx → BitVec 32 := m ((SparseCore.T d).loc main_arg0)
abbrev A1 (d : Dev nD) : S33279x128.Idx → F .f32 := m ((SparseCore.T d).loc main_arg1)
abbrev A2 (d : Dev nD) : S256x100.Idx → F .f32 := m ((SparseCore.T d).loc main_arg2)
abbrev A3 (d : Dev nD) : S100.Idx → F .f32 := m ((SparseCore.T d).loc main_arg3)
abbrev A4 (d : Dev nD) : S100x33279.Idx → F .f32 := m ((SparseCore.T d).loc main_arg4)
abbrev A5 (d : Dev nD) : S33279.Idx → F .f32 := m ((SparseCore.T d).loc main_arg5)

/-- What the kernels read on a device: the index matrix, the embedded rows, the biases and the cast weights. -/
abbrev ix (d : Dev nD) : S64x128.Idx → BitVec 32 := ixOf (A0 m d)
abbrev emb (d : Dev nD) : S4096x256.Idx → F .f32 := embOf (gathered (ix m d) (A1 m d))
abbrev b₁ (d : Dev nD) : S1x100.Idx → F .f32 := b₁Of (A3 m d)
abbrev w₂ (d : Dev nD) : S100x33279.Idx → F .bf16 := w₂Of (A4 m d)
abbrev b₂ (d : Dev nD) : S1x33279.Idx → F .f32 := b₂Of (A5 m d)
abbrev o₀ (d : Dev nD) : S8192x128.Idx → F .f32 := m (oLoc d)
abbrev r₀ (d : Dev nD) : S4096x33279.Idx → F .f32 := m ((SparseCore.T d).loc main_v7)

/-- What the run leaves in the result on a device: the dense kernel's blocks of the embedded rows. -/
def Result (d : Dev nD) (G : S4096x33279.Idx → F .f32) : Prop :=
  Done (hidden (emb m d) (A2 m d) (b₁ m d)) (w₂ m d) (b₂ m d) 33 G

/-! ## The region, called from @main -/

/-- The pipeline's ghost state on a device: its cells' and its launch tokens. -/
abbrev Gh (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

/-- @main's call of the dense kernel is the region's call among the pipelines, lifted. -/
theorem lift_call : (Prog.lift (.customCall (SparseCore.inner (Pipeline.entry 0)) ()) :
      Prog (TpuEff nD τ sig (Elt F) (SparseCore.Sig (ΛP (F := F)) 1) .tc) PUnit)
    = SparseCore.liftProg (.op (.customCall (Pipeline.entry 0) ()) .ret : Prog (TpuEff nD τ sig (Elt F) (ΛP (F := F)) .tc) PUnit) := rfl

set_option backward.isDefEq.respectTransparency.types false in
/-- The dense kernel's call: from its arrays and no debt, to the inputs as they were and the result described. -/
theorem wp_region (d : Dev nD) (Q : PUnit → sProp 𝕄) :
    iprop(((boundary (d : Dev nD).tc ∗ (seg (emb m) (A2 m) (b₁ m) (w₂ m) (b₂ m) (r₀ m)).post d) -∗ Q ⟨⟩)
        ∗ boundary (d : Dev nD).tc ∗ (seg (emb m) (A2 m) (b₁ m) (w₂ m) (b₂ m) (r₀ m)).pre d
        ∗ levAts (K (F := F)).L (K (F := F)).lev ∗ Gh d)
      ⊢ wp frame (wpE ((K (F := F)).defs (D (F := F))) 𝒱 (SparseCore.T d) none) Set.univ
          (Prog.lift (.customCall (SparseCore.inner (Pipeline.entry 0)) ())) Q := by
  rw [lift_call]
  have hl := (K (F := F)).wp_liftProg (D (F := F)) 𝒱 (SparseCore.T d) Set.univ none (α := PUnit)
    (.op (.customCall (Pipeline.entry 0) ()) .ret : Prog (TpuEff nD τ sig (Elt F) (ΛP (F := F)) .tc) PUnit) Q
  refine BIBase.Entails.trans ?_ hl
  refine BIBase.Entails.trans ?_ (RDat.RegionSeg.wp (pcfgs (F := F)) adm (rdats (emb m) (A2 m) (b₁ m) (w₂ m) (b₂ m) (r₀ m)) none
    cellOf_inj (EP (F := F)) (defs₀ (F := F)) 𝒱₀ (K (F := F)).L (K (F := F)).lev (seg (emb m) (A2 m) (b₁ m) (w₂ m) (b₂ m) (r₀ m)) d none
    (fun u hu => nomatch hu) .ret Q)
  iintro ⟨Hk, Hb, Hp, Hl, Hg, Ht⟩
  isplitl [Hk]
  · iintro H
    rw [wp_ret]; imodintro
    iapply Hk; iexact H
  isplitl [Hb]; · iexact Hb
  isplitl [Hp]; · iexact Hp
  isplitl [Hl]; · iexact Hl
  isplitl [Hg]; · iexact Hg
  iexact Ht

/-! ## @main -/

omit [FloatOps F] in
/-- @main's arrays, one by one. -/
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1) ∗ ((SparseCore.T d).loc main_arg2 ↦{fullShare} W main_arg2) ∗ ((SparseCore.T d).loc main_arg3 ↦{fullShare} W main_arg3) ∗ ((SparseCore.T d).loc main_arg4 ↦{fullShare} W main_arg4) ∗ ((SparseCore.T d).loc main_arg5 ↦{fullShare} W main_arg5) ∗ ((SparseCore.T d).loc main_v0 ↦{fullShare} W main_v0) ∗ ((SparseCore.T d).loc main_v1 ↦{fullShare} W main_v1) ∗ ((SparseCore.T d).loc main_v2 ↦{fullShare} W main_v2) ∗ ((SparseCore.T d).loc main_v3 ↦{fullShare} W main_v3) ∗ ((SparseCore.T d).loc main_v4 ↦{fullShare} W main_v4) ∗ ((SparseCore.T d).loc main_v5 ↦{fullShare} W main_v5) ∗ ((SparseCore.T d).loc main_v6 ↦{fullShare} W main_v6) ∗ ((SparseCore.T d).loc main_v7 ↦{fullShare} W main_v7)) := by
  unfold unscopedBufs
  rw [show (Finset.univ.filter fun b : Ref sig .tc => ¬ b.isScoped) = {main_arg0, main_arg1, main_arg2, main_arg3, main_arg4, main_arg5, main_v0, main_v1, main_v2, main_v3, main_v4, main_v5, main_v6, main_v7} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- What @main leaves to the claims: the arguments at their launch contents and the result described. -/
abbrev FIN (d : Dev nD) : sProp 𝕄 :=
  iprop(((SparseCore.T d).loc main_arg0 ↦{fullShare} A0 m d) ∗ ((SparseCore.T d).loc main_arg1 ↦{fullShare} A1 m d)
    ∗ ((SparseCore.T d).loc main_arg2 ↦{fullShare} A2 m d) ∗ ((SparseCore.T d).loc main_arg3 ↦{fullShare} A3 m d)
    ∗ ((SparseCore.T d).loc main_arg4 ↦{fullShare} A4 m d) ∗ ((SparseCore.T d).loc main_arg5 ↦{fullShare} A5 m d)
    ∗ ∃ G, ⌜Result m d G⌝ ∗ ((SparseCore.T d).loc main_v7 ↦{fullShare} (G : S4096x33279.Idx → F .f32)))

/-- The core's debt after the call, taken out of its state and put back. -/
theorem tcSt_debt (d : Dev nD) : ((K (F := F)).tcSt EH d 1 : sProp 𝕄)
    ⊢ iprop(noDebt d ∗ (noDebt d -∗ (K (F := F)).tcSt EH d 1)) := by
  unfold SparseCore.Cfg.tcSt
  rw [(K (F := F)).Otc_end d (le_refl 1)]
  iintro ⟨⟨%W, -, HO⟩, H⟩
  isplitl [HO]; · iexists W; iexact HO
  iintro ⟨%W', HO⟩
  isplitl [HO]
  · iexists W'
    isplitr
    · ipureintro
      intro p _
      rcases p with ⟨s, _ | q⟩
      · exact Nat.zero_le _
      · have hq : q = 0 := Subsingleton.elim _ _
        subst hq
        show 8 * 0 + (K (F := F)).place _ + 1 ≤ 8 * 1
        rcases s with s | s <;> simp only [SparseCore.Cfg.place] <;> (try split_ifs) <;> omega
    iexact HO
  iexact H

/-- @main's host operations, by what they write. -/
abbrev op_v0 : HloOp τ sig (Elt F) := StableHlo.reshape main_arg0 main_v0 (rfl : (.i32 : EltTy) = .i32) shapeCasts_S4096x2_S8192
abbrev op_v1 : HloOp τ sig (Elt F) := StableHlo.reshape main_v0 main_v1 (rfl : (.i32 : EltTy) = .i32) shapeCasts_S8192_S64x128
abbrev op_v3 : HloOp τ sig (Elt F) := StableHlo.reshape main_v2 main_v3 (rfl : (.f32 : EltTy) = .f32) shapeCasts_S8192x128_S4096x256
abbrev op_v4 : HloOp τ sig (Elt F) := StableHlo.reshape main_arg3 main_v4 (rfl : (.f32 : EltTy) = .f32) shapeCasts_S100_S1x100
abbrev op_v5 : HloOp τ sig (Elt F) := StableHlo.unary main_arg4 main_v5 ((truncf .bf16 · bitsLt_bf16_f32) : (⟨S100x33279, .f32⟩ : BufTy).Contents (Elt F) → (⟨S100x33279, .bf16⟩ : BufTy).Contents (Elt F))
abbrev op_v6 : HloOp τ sig (Elt F) := StableHlo.reshape main_arg5 main_v6 (rfl : (.f32 : EltTy) = .f32) shapeCasts_S33279_S1x33279

/-- @main on device `d`'s TensorCore. -/
theorem hmain (κ : GSem nD τ sig → ℕ) (d : Dev nD) :
    iprop((K (F := F)).ctx EH (P (ix m) (A1 m) (o₀ m)) κ ∗ (K (F := F)).tcSt EH d 0 ∗ (K (F := F)).tcRes m ρ d ∗ Gh d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hmain_arg0, Hmain_arg1, Hmain_arg2, Hmain_arg3, Hmain_arg4, Hmain_arg5, Hmain_v0, Hmain_v1, Hmain_v2, Hmain_v3, Hmain_v4, Hmain_v5, Hmain_v6, Hmain_v7⟩, Hts, -⟩, HG⟩
  iapply (wp_one d (F := F) op_v0 main_arg0 main_v0 (by decide) rfl rfl rfl (fun b => m (d, b)) (A0 m d) _ (shapeCast S8192 (A0 m d) shapeCasts_S4096x2_S8192) (fun W hW => (StableHlo.reshape_result main_arg0 main_v0 _ _ _ _ W).trans (by rw [hW]; rfl)) _) $$ [Hb Hmain_arg0 Hmain_v0]
  · isplitl [Hb]; · iexact Hb
    isplitl [Hmain_arg0] <;> iassumption
  iintro %_ ⟨Hb, Hmain_arg0, Hmain_v0⟩
  rw [wp_ret]; imodintro
  iapply (wp_one d (F := F) op_v1 main_v0 main_v1 (by decide) rfl rfl rfl (fun b => m (d, b)) (shapeCast S8192 (A0 m d) shapeCasts_S4096x2_S8192) _ (ix m d) (fun W hW => (StableHlo.reshape_result main_v0 main_v1 _ _ _ _ W).trans (by rw [hW]; rfl)) _) $$ [Hb Hmain_v0 Hmain_v1]
  · isplitl [Hb]; · iexact Hb
    isplitl [Hmain_v0] <;> iassumption
  iintro %_ ⟨Hb, Hmain_v0, Hmain_v1⟩
  rw [wp_ret]; imodintro
  iapply ((K (F := F)).wp_run (D (F := F)) 𝒱 (EH := EH) (P := P (ix m) (A1 m) (o₀ m)) κ d 0) $$ [Hst Hmain_arg1 Hmain_v1 Hmain_v2 Hb Hts HG Hmain_arg0 Hmain_arg2 Hmain_arg3 Hmain_arg4 Hmain_arg5 Hmain_v3 Hmain_v4 Hmain_v5 Hmain_v6 Hmain_v7]
  isplitr; · iexact Hctx
  isplitl [Hst]; · iexact Hst
  isplitl [Hmain_v1 Hmain_arg1 Hmain_v2]
  · iapply (Entails.of_eq (st0_eq (ix m) (A1 m) (o₀ m) d).symm)
    isplitl [Hmain_v1]; · iexact Hmain_v1
    isplitl [Hmain_arg1]; · iexact Hmain_arg1
    iexact Hmain_v2
  iintro ⟨Hst, Hdn⟩
  ihave Hdn' := (Entails.of_eq (dn0_eq (ix m) (A1 m) (o₀ m) d)) $$ Hdn
  icases Hdn' with ⟨-, Hmain_arg1, Hmain_v2⟩
  iapply (wp_one d (F := F) op_v3 main_v2 main_v3 (by decide) rfl rfl rfl (fun b => m (d, b)) (gathered (ix m d) (A1 m d)) _ (emb m d) (fun W hW => (StableHlo.reshape_result main_v2 main_v3 _ _ _ _ W).trans (by rw [hW]; rfl)) _) $$ [Hb Hmain_v2 Hmain_v3]
  · isplitl [Hb]; · iexact Hb
    isplitl [Hmain_v2] <;> iassumption
  iintro %_ ⟨Hb, Hmain_v2, Hmain_v3⟩
  rw [wp_ret]; imodintro
  iapply (wp_one d (F := F) op_v4 main_arg3 main_v4 (by decide) rfl rfl rfl (fun b => m (d, b)) (A3 m d) _ (b₁ m d) (fun W hW => (StableHlo.reshape_result main_arg3 main_v4 _ _ _ _ W).trans (by rw [hW]; rfl)) _) $$ [Hb Hmain_arg3 Hmain_v4]
  · isplitl [Hb]; · iexact Hb
    isplitl [Hmain_arg3] <;> iassumption
  iintro %_ ⟨Hb, Hmain_arg3, Hmain_v4⟩
  rw [wp_ret]; imodintro
  iapply (wp_one d (F := F) op_v5 main_arg4 main_v5 (by decide) rfl rfl rfl (fun b => m (d, b)) (A4 m d) _ (w₂ m d) (fun W hW => (StableHlo.unary_result main_arg4 main_v5 _ _ _ W).trans (by rw [hW]; rfl)) _) $$ [Hb Hmain_arg4 Hmain_v5]
  · isplitl [Hb]; · iexact Hb
    isplitl [Hmain_arg4] <;> iassumption
  iintro %_ ⟨Hb, Hmain_arg4, Hmain_v5⟩
  rw [wp_ret]; imodintro
  iapply (wp_one d (F := F) op_v6 main_arg5 main_v6 (by decide) rfl rfl rfl (fun b => m (d, b)) (A5 m d) _ (b₂ m d) (fun W hW => (StableHlo.reshape_result main_arg5 main_v6 _ _ _ _ W).trans (by rw [hW]; rfl)) _) $$ [Hb Hmain_arg5 Hmain_v6]
  · isplitl [Hb]; · iexact Hb
    isplitl [Hmain_arg5] <;> iassumption
  iintro %_ ⟨Hb, Hmain_arg5, Hmain_v6⟩
  rw [wp_ret]; imodintro
  ihave Hst := (show (K (F := F)).tcSt EH d ((0 : Fin 1).val + 1) ⊢ ((K (F := F)).tcSt EH d 1 : sProp 𝕄) from BIBase.Entails.rfl) $$ Hst
  ihave Hd := (tcSt_debt d) $$ Hst
  icases Hd with ⟨Hd, Hst⟩
  ihave Hlev := (SparseCore.Cfg.ctx_levAts (K := K (F := F)) (EH := EH) (P := P (ix m) (A1 m) (o₀ m)) κ) $$ Hctx
  iapply (wp_region m d _)
  isplitl [Hst Hts Hmain_arg0 Hmain_arg1 Hmain_arg3 Hmain_arg4 Hmain_arg5]
  · iintro ⟨Hb, Hp⟩
    ihave Hp' := (show (seg (emb m) (A2 m) (b₁ m) (w₂ m) (b₂ m) (r₀ m)).post d
      ⊢ iprop((insPts (emb m) (A2 m) (b₁ m) (w₂ m) (b₂ m) d ∗ ∃ G, ⌜Result m d G⌝ ∗ resPts d G) ∗ noDebt d) from BIBase.Entails.rfl) $$ Hp
    icases Hp' with ⟨⟨⟨-, Hmain_arg2, -⟩, ⟨%G, %hG, Hmain_v7⟩⟩, Hd⟩
    ihave Hst' := Hst $$ Hd
    imodintro
    isplitl [Hst']; · iexact Hst'
    isplitr [Hb Hts]
    · isplitl [Hmain_arg0]; · iexact Hmain_arg0
      isplitl [Hmain_arg1]; · iexact Hmain_arg1
      isplitl [Hmain_arg2]; · iexact Hmain_arg2
      isplitl [Hmain_arg3]; · iexact Hmain_arg3
      isplitl [Hmain_arg4]; · iexact Hmain_arg4
      isplitl [Hmain_arg5]; · iexact Hmain_arg5
      iexists G
      isplitr; · ipureintro; exact hG
      iexact Hmain_v7
    isplitl [Hb] <;> iassumption
  isplitl [Hb]; · iexact Hb
  isplitl [Hd Hmain_arg2 Hmain_v3 Hmain_v4 Hmain_v5 Hmain_v6 Hmain_v7]
  · iapply (show iprop((insPts (emb m) (A2 m) (b₁ m) (w₂ m) (b₂ m) d ∗ resPts d (r₀ m d)) ∗ noDebt d)
      ⊢ (seg (emb m) (A2 m) (b₁ m) (w₂ m) (b₂ m) (r₀ m)).pre d from BIBase.Entails.rfl)
    isplitr [Hd]
    · isplitr [Hmain_v7]
      · isplitl [Hmain_v3]; · iexact Hmain_v3
        isplitl [Hmain_arg2]; · iexact Hmain_arg2
        isplitl [Hmain_v4]; · iexact Hmain_v4
        isplitl [Hmain_v5]; · iexact Hmain_v5
        iexact Hmain_v6
      iexact Hmain_v7
    iexact Hd
  isplitr; · iexact Hlev
  iexact HG

/-! ## The launch's ghost state -/

/-- The launch element: the handshakes' rounds, the pipeline's rounds, no counters. -/
def u₀ : UU := (initOf (K (F := F)).hsCells (K (F := F)).hsToks, (initOf (Pipeline.cells cfgs cellOf_inj) (Pipeline.launchToks cfgs cellOf_inj), 1))

/-- The launch element pays for the handshakes and for every device's pipeline. -/
theorem hu₀ : (ownU (u₀ (F := F)) : sProp 𝕄)
    ⊢ |={Set.univ}=> iprop(BI.own (EH (initOf (K (F := F)).hsCells (K (F := F)).hsToks)) ∗ (bigSep Finset.univ fun d : Dev nD => Gh d)
        ∗ bigSep Finset.univ fun thr : Thread nD τ => bigSep Finset.univ fun q : Fin 1 => (P (ix m) (A1 m) (o₀ m)).x q thr) := by
  have hx : (bigSep Finset.univ fun thr : Thread nD τ => bigSep Finset.univ fun q : Fin 1 => (P (ix m) (A1 m) (o₀ m)).x q thr)
      = (iprop(emp) : sProp 𝕄) :=
    (bigSep_congr fun _ _ => bigSep_univ_of_subsingleton (0 : Fin 1)).trans (bigSep_emp_const Finset.univ)
  have hg : iprop((bigSep Finset.univ fun c : Dev nD => bigSep Finset.univ fun p => Pipeline.cellsGhost (Pipeline.pin (pcfgs (F := F)) adm) (EP (F := F)) p c)
      ∗ (bigSep Finset.univ fun c : Dev nD => bigSep Finset.univ fun p => (Pipeline.toksInit (Pipeline.pin (pcfgs (F := F)) adm) (EP (F := F)) p c : sProp 𝕄)))
      ⊢ bigSep Finset.univ fun d : Dev nD => Gh d := by
    rw [bigSep_sep']
    refine Entails.of_eq (congrArg₂ _ ?_ ?_) <;>
      exact bigSep_congr fun _ _ => bigSep_univ_of_subsingleton (0 : Fin 1)
  have hf := Pipeline.fund_ghost (Pipeline.pin (pcfgs (F := F)) adm) (EP (F := F)) cellOf_inj
  unfold u₀
  iintro Hu
  ihave H := (ownU_pair (initOf (K (F := F)).hsCells (K (F := F)).hsToks)
    ((initOf (Pipeline.cells cfgs cellOf_inj) (Pipeline.launchToks cfgs cellOf_inj), (1 : Counters)) : UP × Counters)) $$ Hu
  icases H with ⟨HH, HR⟩
  ihave HR' := (own_pair_emb (embR : Emb (UP × Counters) 𝕄) (initOf (Pipeline.cells cfgs cellOf_inj) (Pipeline.launchToks cfgs cellOf_inj)) (1 : Counters)) $$ HR
  icases HR' with ⟨HP, -⟩
  imod hf $$ HP with HG
  imodintro
  isplitl [HH]; · iexact HH
  isplitl [HG]; · iapply hg; iexact HG
  iapply (Entails.of_eq hx.symm)
  iempintro

/-! ## What the run leaves -/

/-- A device's memory at the end: the arguments as at launch and the result described. -/
def fq (d : Dev nD) (s' : Phys nD τ sig (Elt F)) : Prop :=
  s'.mem.mem ((SparseCore.T d).loc main_arg0) = A0 m d ∧ s'.mem.mem ((SparseCore.T d).loc main_arg1) = A1 m d ∧ s'.mem.mem ((SparseCore.T d).loc main_arg2) = A2 m d ∧ s'.mem.mem ((SparseCore.T d).loc main_arg3) = A3 m d ∧ s'.mem.mem ((SparseCore.T d).loc main_arg4) = A4 m d ∧ s'.mem.mem ((SparseCore.T d).loc main_arg5) = A5 m d ∧ Result m d (s'.mem.mem ((SparseCore.T d).loc main_v7))

omit [FloatOps F] in
/-- A buffer owned whole at `f` holds `f`. -/
theorem whole_agree {ℓ : Loc nD τ sig} (f : Buf (Elt F) ℓ) (s' : Phys nD τ sig (Elt F)) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h1, HSI, -⟩
  isplitr
  · ipureintro; exact funext fun i => h1 i (Finset.mem_univ i)
  iexact HSI

/-- What @main leaves to the claims is read off the final memory. -/
theorem hfin (d : Dev nD) (s' : Phys nD τ sig (Elt F)) : iprop(FIN m d ∗ SI s') ⊢ (⌜fq m d s'⌝ : sProp 𝕄) := by
  iintro ⟨⟨H0, H1, H2, H3, H4, H5, ⟨%G, %hG, H6⟩⟩, HSI⟩
  ihave H := (whole_agree (ℓ := (SparseCore.T d).loc main_arg0) (A0 m d) s') $$ [HSI H0]
  · isplitl [HSI] <;> iassumption
  icases H with ⟨%h0, HSI⟩
  ihave H := (whole_agree (ℓ := (SparseCore.T d).loc main_arg1) (A1 m d) s') $$ [HSI H1]
  · isplitl [HSI] <;> iassumption
  icases H with ⟨%h1, HSI⟩
  ihave H := (whole_agree (ℓ := (SparseCore.T d).loc main_arg2) (A2 m d) s') $$ [HSI H2]
  · isplitl [HSI] <;> iassumption
  icases H with ⟨%h2, HSI⟩
  ihave H := (whole_agree (ℓ := (SparseCore.T d).loc main_arg3) (A3 m d) s') $$ [HSI H3]
  · isplitl [HSI] <;> iassumption
  icases H with ⟨%h3, HSI⟩
  ihave H := (whole_agree (ℓ := (SparseCore.T d).loc main_arg4) (A4 m d) s') $$ [HSI H4]
  · isplitl [HSI] <;> iassumption
  icases H with ⟨%h4, HSI⟩
  ihave H := (whole_agree (ℓ := (SparseCore.T d).loc main_arg5) (A5 m d) s') $$ [HSI H5]
  · isplitl [HSI] <;> iassumption
  icases H with ⟨%h5, HSI⟩
  ihave H := (whole_agree (ℓ := (SparseCore.T d).loc main_v7) G s') $$ [HSI H6]
  · isplitl [HSI] <;> iassumption
  icases H with ⟨%h6, -⟩
  ipureintro
  exact ⟨h0, h1, h2, h3, h4, h5, h6 ▸ hG⟩

/-- What the run ends in. -/
def QC : PUnit × MemSt nD τ sig (Elt F) → Prop := fun r =>
  (∀ d : Dev nD, r.2.mem ((SparseCore.T d).loc main_arg0) = A0 m d ∧ r.2.mem ((SparseCore.T d).loc main_arg1) = A1 m d ∧ r.2.mem ((SparseCore.T d).loc main_arg2) = A2 m d ∧ r.2.mem ((SparseCore.T d).loc main_arg3) = A3 m d ∧ r.2.mem ((SparseCore.T d).loc main_arg4) = A4 m d ∧ r.2.mem ((SparseCore.T d).loc main_arg5) = A5 m d
    ∧ Result m d (r.2.mem ((SparseCore.T d).loc main_v7))) ∧ r.2.sem = fun _ => 0

/-- Every word of the gather's index matrix names a row of the table. -/
def PreOK : Prop := ∀ (d : Dev nD) (j : S4096x2.Idx), (A0 m d j).toNat < 33279

/-- From index words that name rows of the table, every run ends, leaves the arguments as they were, and leaves the
    result the dense kernel's blocks of the embedded rows. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (ix m) (A1 m) (o₀ m)) (A := ∅) scFacts v₀
    (fun q hq => match q with | 0 => nomatch hq)
    (fun q _ => match q with | 0 => tileObl (ix m) (A1 m) (o₀ m) scFacts fun d j => hpre d _)
    (fun q _ => match q with | 0 => SparseCore.Cfg.VecSplit.of_plain (vecSplit (ix m) (A1 m) (o₀ m)))
    m ρ main (fun d => Gh d) (FIN m) (u₀ (F := F)) (sep_elim_left.trans (hu₀ m)) (hmain m ρ) (fq m) (hfin m) (QC m) (fun _ h hz => ⟨h, hz⟩)

end Run

end Cert.Proof.KernelIdeal
-- ==== Proof.RefTerm.lean ====
/-
  What the reference computes, named step by step, and the value of each step at an index.
-/
module

public import proofs.«01_k».proof.Proof.Gen.ReferenceIdeal
public import proofs.«01_k».proof.Proof.Gen.ReferenceIdeal.Run
public import Idealize.ShloMosaic.Lib.Pointwise
public import Idealize.ShloMosaic.Lib.ReduceAll
public import Idealize.ShloMosaic.Lib.WordCmp

@[expose] public section

set_option maxRecDepth 16384

noncomputable section

namespace Cert.Proof.Reference

open Cert.ReferenceIdeal Cert.ReferenceIdeal.Gen
open Idealize.ShloMosaic Idealize.ShloMosaic.WordCmp Idealize.SL.Sem

/-! ## The steps -/

/-- The row numbers: an index below 0 counts from the table's end. -/
def words (a : IVec S4096x2 32) : IVec S4096x2x1 32 :=
  broadcastInDim S4096x2x1 ![0, 1] bcast_S4096x2_S4096x2x1_0_1
    (select (cmpi .slt a (broadcastInDim S4096x2 ![] bcast_S_S4096x2 (constantI S_ 32 0#32)))
      (addi a (broadcastInDim S4096x2 ![] bcast_S_S4096x2 (constantI S_ 32 33279#32))) a)

/-- Where the row number lies in the table. -/
def inside (a : IVec S4096x2 32) : IVec S4096x2 1 :=
  Host.reduce IntOp.andi
    (andi (cmpi .sge (words a) (broadcastInDim S4096x2x1 ![] bcast_S_S4096x2x1 (constantI S_ 32 0#32)))
      (cmpi .sle (words a) (broadcastInDim S4096x2x1 ![0, 1, 2] bcast_S1x1x1_S4096x2x1_0_1_2
        (broadcastInDim S1x1x1 ![2] bcast_S1_S1x1x1_2 (constantI S1 32 33278#32)))))
    (constantI S_ 1 1#1) reducesTo_S4096x2x1_S4096x2_d2 h_S_

/-- The rows taken from the table. -/
def taken (a : IVec S4096x2 32) (tab : FVec Ideal S33279x128 .f32) : FVec Ideal S4096x2x128 .f32 :=
  select (broadcastInDim S4096x2x128 ![0, 1] bcast_S4096x2_S4096x2x128_0_1 (inside a))
    (Host.gather gather_S33279x128_S4096x2x1_S4096x2x128_2_0_n_n_0_2_1128 tab (words a))
    (broadcastInDim S4096x2x128 ![] bcast_S_S4096x2x128 (constant S_ .f32 0x7FC00000#32))

/-- The two rows of an example side by side. -/
def embedded (a : IVec S4096x2 32) (tab : FVec Ideal S33279x128 .f32) : FVec Ideal S4096x256 .f32 :=
  shapeCast S4096x256 (taken a tab) shapeCasts_S4096x2x128_S4096x256

/-- The hidden layer. -/
def hiddenLayer (e : FVec Ideal S4096x256 .f32) (w : FVec Ideal S256x100 .f32) (b : FVec Ideal S100 .f32) : FVec Ideal S4096x100 .f32 :=
  Host.tanh (addf (Host.dotGeneral dot_S4096x256_S256x100_S4096x100_1_0_0_1_n_n none e w)
    (broadcastInDim S4096x100 ![0, 1] bcast_S1x100_S4096x100_0_1 (broadcastInDim S1x100 ![1] bcast_S100_S1x100_1 b)))

/-- The output layer. -/
def outLayer (h : FVec Ideal S4096x100 .f32) (w : FVec Ideal S100x33279 .f32) (b : FVec Ideal S33279 .f32) : FVec Ideal S4096x33279 .f32 :=
  addf (Host.dotGeneral dot_S4096x100_S100x33279_S4096x33279_1_0_0_1_n_n none h w)
    (broadcastInDim S4096x33279 ![0, 1] bcast_S1x33279_S4096x33279_0_1 (broadcastInDim S1x33279 ![1] bcast_S33279_S1x33279_1 b))

/-- The reference's result. -/
def result (a : IVec S4096x2 32) (tab : FVec Ideal S33279x128 .f32) (w₁ : FVec Ideal S256x100 .f32) (b₁ : FVec Ideal S100 .f32)
    (w₂ : FVec Ideal S100x33279 .f32) (b₂ : FVec Ideal S33279 .f32) : FVec Ideal S4096x33279 .f32 :=
  outLayer (hiddenLayer (embedded a tab) w₁ b₁) w₂ b₂

/-- The reference's run leaves `result` of its arguments. -/
theorem run_result (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v10) = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.ReferenceIdeal.Value.run (F := Ideal) m ρ

/-! ## The steps at an index -/

/-- The output layer at an index. -/
theorem outLayer_at (h : FVec Ideal S4096x100 .f32) (w : FVec Ideal S100x33279 .f32) (b : FVec Ideal S33279 .f32) (i : Fin 4096)
    (j : Fin 33279) :
    outLayer h w b (ix2 i j) = ∑ k : Fin 100, h (ix2 i k) * w (ix2 k j) + b (ix1 j) := by
  pointwise [outLayer]

/-- The hidden layer at an index. -/
theorem hiddenLayer_at (e : FVec Ideal S4096x256 .f32) (w : FVec Ideal S256x100 .f32) (b : FVec Ideal S100 .f32) (i : Fin 4096)
    (k : Fin 100) :
    hiddenLayer e w b (ix2 i k) = Ideal.tanh (∑ c : Fin 256, e (ix2 i c) * w (ix2 c k) + b (ix1 k)) := by
  pointwise [hiddenLayer]

/-- The row number of an index that is in range is the index. -/
theorem words_at (a : IVec S4096x2 32) (i : Fin 4096) (s : Fin 2) (z : Fin 1) (h : (a (ix2 i s)).toNat < 33279) :
    words a (ix3 i s z) = a (ix2 i s) := by
  pointwise [words]
  rw [cmpi_slt_zero, ofBool_decide_eq_ite, if_neg (by omega), select_zero]

/-- Every row number lies in the table when every index is in range. -/
theorem inside_at (a : IVec S4096x2 32) (h : ∀ j, (a j).toNat < 33279) (j : S4096x2.Idx) : inside a j = 1#1 := by
  refine Host.reduce_andi_one _ _ _ _ j rfl fun y => ?_
  obtain ⟨i, s, z, rfl⟩ : ∃ (i : Fin 4096) (s : Fin 2) (z : Fin 1), y = ix3 i s z := ⟨_, _, _, eq_ix3 y⟩
  pointwise
  have hw := h (ix2 i s)
  rw [words_at a i s z hw, cmpi_sge_zero, cmpi_sle_of_lt (by omega) (by decide), andi_ofBool, ofBool_eq_one_iff, Bool.and_eq_true,
    decide_eq_true_iff, decide_eq_true_iff]
  exact ⟨by omega, by show _ ≤ 33278; omega⟩

/-- The index of the row numbers that element `(i, s, l)` of the taken rows reads. -/
theorem start_idx (i : Fin 4096) (s : Fin 2) (l : Fin 128) (c : Fin 1) :
    gather_S33279x128_S4096x2x1_S4096x2x128_2_0_n_n_0_2_1128.siIdx (ix3 i s l) c = ix3 i s 0 := by
  funext b
  match b with
  | ⟨0, _⟩ => rfl
  | ⟨1, _⟩ => rfl
  | ⟨2, _⟩ => exact Subsingleton.elim (α := Fin 1) _ _

/-- An element of the gather, where the row number is in range. -/
theorem gather_at (tab : FVec Ideal S33279x128 .f32) (idx : IVec S4096x2x1 32) (i : Fin 4096) (s : Fin 2) (l : Fin 128)
    (h : (idx (ix3 i s 0)).toNat < 33279) :
    Host.gather gather_S33279x128_S4096x2x1_S4096x2x128_2_0_n_n_0_2_1128 tab idx (ix3 i s l)
      = tab (ix2 ⟨(idx (ix3 i s 0)).toNat, h⟩ l) := by
  unfold Host.gather
  refine congrArg tab (funext fun a => Fin.ext ?_)
  match a with
  | ⟨0, _⟩ =>
    show min (idx (gather_S33279x128_S4096x2x1_S4096x2x128_2_0_n_n_0_2_1128.siIdx (ix3 i s l) (0 : Fin 1))).toInt.toNat 33278 + 0 + 0 = (idx (ix3 i s 0)).toNat
    rw [start_idx, toInt_eq_toNat_of_lt_half (by omega)]
    omega
  | ⟨1, _⟩ => show 0 + 0 + l.val = l.val; omega

/-- An element of the taken rows. -/
theorem taken_at (a : IVec S4096x2 32) (tab : FVec Ideal S33279x128 .f32) (h : ∀ j, (a j).toNat < 33279) (i : Fin 4096) (s : Fin 2)
    (l : Fin 128) : taken a tab (ix3 i s l) = tab (ix2 ⟨(a (ix2 i s)).toNat, h _⟩ l) := by
  pointwise [taken]
  rw [inside_at a h]
  have hw := words_at a i s 0 (h _)
  rw [gather_at tab (words a) i s l (by rw [hw]; exact h _)]
  simp only [hw, select_one]

/-- An element of the embedded rows. -/
theorem embedded_at (a : IVec S4096x2 32) (tab : FVec Ideal S33279x128 .f32) (h : ∀ j, (a j).toNat < 33279) (i : Fin 4096)
    (c : Fin 256) : embedded a tab (ix2 i c)
      = tab (ix2 ⟨(a (ix2 i ⟨c.val / 128, by omega⟩)).toNat, h _⟩ ⟨c.val % 128, by omega⟩) := by
  pointwise [embedded]
  rw [taken_at a tab h]

end Cert.Proof.Reference

end
-- ==== Proof.InRange.lean ====
/-
  What the precondition says of the indices: every word of the index array, read unsigned, is below the table's number of rows.
-/
module

public import proofs.«01_k».proof.Defs
public import proofs.«01_k».proof.Proof.Gen.Pre_in_range
public import Idealize.ShloMosaic.Lib.ReduceAll
public import Idealize.ShloMosaic.Lib.WordCmp

@[expose] public section

noncomputable section

namespace Cert.Proof

open Idealize.ShloMosaic Idealize.ShloMosaic.WordCmp Cert.Pre_in_range

/-- A word that is at least 0 and below 33279, read signed, is below 33279 read unsigned. -/
theorem word_lt {x : BitVec 32} (h0 : 0 ≤ x.toInt) (h1 : x.toInt < 33279) : x.toNat < 33279 := by
  have h := toInt_eq_toNat_of_lt_half ((toInt_nonneg_iff_lt_half x).1 h0)
  omega

/-- A rank-0 shape has one index. -/
theorem idx0_subsingleton : Subsingleton S_.Idx := ⟨fun a b => funext fun k => k.elim0⟩

/-- Where the precondition's function answers 1, every index is a row number of the table. -/
theorem words_lt {F : FTy → Type} [FloatOps F] (a0 : IVec S4096x2 32) (a1 : FVec F S33279x128 .f32) (a2 : FVec F S256x100 .f32)
    (a3 : FVec F S100 .f32) (a4 : FVec F S100x33279 .f32) (a5 : FVec F S33279 .f32)
    (h : Cert.Pre_in_range.fn (F := F) a0 a1 a2 a3 a4 a5 = fun _ => 1#1) (j : S4096x2.Idx) : (a0 j).toNat < 33279 := by
  haveI := idx0_subsingleton
  have h1 := Host.reduce_andi_all _ _ _ _ (fun k => k.elim0) (congrFun h _) j
  rw [andi_at, cmpi_at, cmpi_at, broadcastInDim_constantI, broadcastInDim_constantI, constantI_at, constantI_at,
    cmpi_sge_eq, cmpi_slt_eq, andi_ofBool, ofBool_eq_one_iff, Bool.and_eq_true, decide_eq_true_iff, decide_eq_true_iff] at h1
  exact word_lt h1.1 h1.2

end Cert.Proof

end
-- ==== Proof.Frames.lean ====
/-
  Every program's run keeps its arguments and leaves no semaphore count behind.
-/
module

public import proofs.«01_k».proof.Defs
public import proofs.«01_k».proof.Proof.InRange
public import proofs.«01_k».proof.Proof.Launch
public import proofs.«01_k».proof.Proof.PrintedLaunch
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The precondition, at the printed kernel, puts every index in range. -/
theorem preOK_kernel (m : (ℓ : Loc Cert.Kernel.nD Cert.Kernel.τ Cert.Kernel.sig) → Buf (Elt Bits) ℓ) (h : Cert.Pre_Kernel m) :
    Cert.Proof.Kernel.PreOK (F := Bits) m :=
  fun d j => words_lt _ _ _ _ _ _ (h d) j

/-- The precondition, at the idealized kernel, puts every index in range. -/
theorem preOK_ideal (m : (ℓ : Loc Cert.KernelIdeal.nD Cert.KernelIdeal.τ Cert.KernelIdeal.sig) → Buf (Elt Ideal) ℓ)
    (h : Cert.Pre_KernelIdeal m) : Cert.Proof.KernelIdeal.PreOK (F := Ideal) m :=
  fun d j => words_lt _ _ _ _ _ _ (h d) j

/-- The printed kernel runs to its end with its arguments kept and every counter at zero. -/
theorem frame_kernel : Cert.quiescent_Kernel := fun m g hp =>
  haveI : ∀ e, Nonempty (Elt Bits e) := fun e => by cases e <;> exact ⟨0⟩
  (θ_run (Cert.Kernel.defs (F := Bits)) (Cert.Kernel.threads (F := Bits)) ⟨m, fun _ => 0, g⟩).mono
    (fun _ hq => ⟨fun c => ⟨(hq.1 c).1, (hq.1 c).2.1, (hq.1 c).2.2.1, (hq.1 c).2.2.2.1, (hq.1 c).2.2.2.2.1, (hq.1 c).2.2.2.2.2.1⟩, hq.2⟩)
    (Cert.Proof.Kernel.run_main m g (preOK_kernel m hp))

/-- The idealized kernel runs to its end with its arguments kept and every counter at zero. -/
theorem frame_ideal : Cert.quiescent_KernelIdeal := fun m g hp =>
  haveI : ∀ e, Nonempty (Elt Ideal e) := fun e => by cases e <;> exact ⟨0⟩
  (θ_run (Cert.KernelIdeal.defs (F := Ideal)) (Cert.KernelIdeal.threads (F := Ideal)) ⟨m, fun _ => 0, g⟩).mono
    (fun _ hq => ⟨fun c => ⟨(hq.1 c).1, (hq.1 c).2.1, (hq.1 c).2.2.1, (hq.1 c).2.2.2.1, (hq.1 c).2.2.2.2.1, (hq.1 c).2.2.2.2.2.1⟩, hq.2⟩)
    (Cert.Proof.KernelIdeal.run_main m g (preOK_ideal m hp))

/-- The reference runs to its end with its arguments kept; it has no semaphore. -/
theorem frame_reference : Cert.quiescent_ReferenceIdeal := fun m g _ =>
  (θ_run (Cert.ReferenceIdeal.defs (F := Ideal)) (onTc (τ := Cert.ReferenceIdeal.τ) (Cert.ReferenceIdeal.main (F := Ideal))) ⟨m, fun _ => 0, g⟩).mono
    (fun r hq => ⟨fun c => (hq c).2, sem_eq_zero_of_no_sems (by decide) r.2⟩)
    (Cert.ReferenceIdeal.Value.run m g)

/-- The same under the precondition. -/
theorem frame_reference_in_range : Cert.quiescent_ReferenceIdeal_pre_in_range := fun m g _ => frame_reference m g trivial

end Cert.Proof

end
-- ==== Proof.Value.lean ====
/-
  The kernel's result is the reference's: every element of every block the dense kernel leaves is the reference's element.
-/
module

public import proofs.«01_k».proof.Proof.Launch
public import proofs.«01_k».proof.Proof.RefTerm
public import proofs.«01_k».proof.Proof.Frames

@[expose] public section

set_option maxRecDepth 16384

noncomputable section

namespace Cert.Proof.KernelIdeal

open Cert.KernelIdeal Cert.KernelIdeal.Gen
open Idealize.ShloMosaic Idealize.SL.Sem

/-- A pair of coordinates is the index that has them. -/
theorem pair_eq {a b : ℕ} (r : Fin a) (c : Fin b) : Shape.pair (d := ![a, b]) r c = ix2 r c := by
  funext k
  match k with
  | ⟨0, _⟩ => rfl
  | ⟨1, _⟩ => rfl

/-- The output block at an index. -/
theorem outBlock_at (h : S4096x100.Idx → Ideal .bf16) (u : S100x1024.Idx → Ideal .bf16) (v : S1x1024.Idx → Ideal .f32) (i : Fin 4096)
    (y : Fin 1024) : outBlock (F := Ideal) h u v (ix2 i y) = ((∑ k : Fin 100, h (ix2 i k) * u (ix2 k y) + v (ix2 0 y) : EReal)) := by
  pointwise [outBlock, k1_pay2]

/-- The hidden layer at an index. -/
theorem hidden_at (e : S4096x256.Idx → Ideal .f32) (w : S256x100.Idx → Ideal .f32) (b : S100.Idx → Ideal .f32) (i : Fin 4096)
    (k : Fin 100) : hidden (F := Ideal) e w (b₁Of b) (ix2 i k) = Ideal.tanh (∑ c : Fin 256, e (ix2 i c) * w (ix2 c k) + b (ix1 k)) := by
  pointwise [hidden, k1_pay1, b₁Of]

/-- The word that gathered row `p` is named by. -/
theorem wordOf_at (a : S4096x2.Idx → BitVec 32) (p : Fin 8192) :
    wordOf (ixOf a) p = a (ix2 ⟨p.val / 2, by omega⟩ ⟨p.val % 2, by omega⟩) := by
  unfold wordOf
  refine (congrArg (ixOf a) (pair_eq (a := 64) (b := 128) _ _)).trans ?_
  pointwise [ixOf]
  have e0 : p.val / 128 * 64 + p.val % 128 / 2 = p.val / 2 := by omega
  have e1 : p.val % 128 % 2 = p.val % 2 := by omega
  simp only [e0, e1]

/-- An element of the embedded rows, where every index is in range. -/
theorem emb_at (a : S4096x2.Idx → BitVec 32) (tab : S33279x128.Idx → Ideal .f32) (h : ∀ j, (a j).toNat < 33279) (i : Fin 4096)
    (c : Fin 256) : embOf (F := Ideal) (gathered (ixOf a) tab) (ix2 i c)
      = tab (ix2 ⟨(a (ix2 i ⟨c.val / 128, by omega⟩)).toNat, h _⟩ ⟨c.val % 128, by omega⟩) := by
  pointwise [embOf, gathered]
  refine (congrArg tab (pair_eq (a := 33279) (b := 128) _ _)).trans ?_
  have hw : wordOf (ixOf a) ⟨i.val * 2 + c.val / 128, by omega⟩ = a (ix2 i ⟨c.val / 128, by omega⟩) := by
    rw [wordOf_at]
    have e0 : (i.val * 2 + c.val / 128) / 2 = i.val := by omega
    have e1 : (i.val * 2 + c.val / 128) % 2 = c.val / 128 := by omega
    simp only [e0, e1]
  simp only [hw, h, if_true]

/-- The dense kernel's hidden layer of the embedded rows is the reference's. -/
theorem hidden_eq (a : S4096x2.Idx → BitVec 32) (tab : S33279x128.Idx → Ideal .f32) (w : S256x100.Idx → Ideal .f32)
    (b : S100.Idx → Ideal .f32) (h : ∀ j, (a j).toNat < 33279) (i : Fin 4096) (k : Fin 100) :
    hidden (F := Ideal) (embOf (gathered (ixOf a) tab)) w (b₁Of b) (ix2 i k)
      = Reference.hiddenLayer (Reference.embedded a tab) w b (ix2 i k) := by
  rw [hidden_at, Reference.hiddenLayer_at]
  simp only [emb_at a tab h, Reference.embedded_at a tab h]

/-- The cast weights and the bias row, read at an index, are the arguments'. -/
theorem w₂_at (w : S100x33279.Idx → Ideal .f32) (k : Fin 100) (j : Fin 33279) : w₂Of (F := Ideal) w (ix2 k j) = w (ix2 k j) := by
  pointwise [w₂Of]
theorem b₂_at (b : S33279.Idx → Ideal .f32) (z : Fin 1) (j : Fin 33279) : b₂Of (F := Ideal) b (ix2 z j) = b (ix1 j) := by
  pointwise [b₂Of]

/-- Whatever the dense kernel's blocks leave in the result is the reference's result. -/
theorem result_eq (m : (ℓ : Loc nD τ sig) → Buf (Elt Ideal) ℓ) (h : PreOK (F := Ideal) m) (d : Dev nD)
    (G : S4096x33279.Idx → Ideal .f32) (hG : Result (F := Ideal) m d G) :
    G = Reference.result (A0 m d) (A1 m d) (A2 m d) (A3 m d) (A4 m d) (A5 m d) := by
  funext j
  obtain ⟨i, n, rfl⟩ : ∃ (i : Fin 4096) (n : Fin 33279), j = ix2 i n := ⟨_, _, eq_ix2 j⟩
  have hlt := n.isLt
  obtain ⟨X, ⟨u, v, hu, hv, rfl⟩, hX⟩ := hG (n.val / 1024) (by omega)
  have en : n.val / 1024 * 1024 + (⟨n.val % 1024, by omega⟩ : Fin 1024).val = n.val := by show _ + n.val % 1024 = _; omega
  have hn : (⟨n.val / 1024 * 1024 + (⟨n.val % 1024, by omega⟩ : Fin 1024).val, en.trans_lt hlt⟩ : Fin 33279) = n := Fin.ext en
  have h1 := hX i ⟨n.val % 1024, by omega⟩ (en.trans_lt hlt)
  have hu' : ∀ k : Fin 100, u (ix2 k ⟨n.val % 1024, by omega⟩) = A4 m d (ix2 k n) := fun k => by
    have h2 := hu k ⟨n.val % 1024, by omega⟩ (en.trans_lt hlt)
    erw [pair_eq, pair_eq, hn] at h2
    exact h2.trans (w₂_at (A4 m d) k n)
  have hv' : v (ix2 0 ⟨n.val % 1024, by omega⟩) = A5 m d (ix1 n) := by
    have h2 := hv 0 ⟨n.val % 1024, by omega⟩ (en.trans_lt hlt)
    erw [pair_eq, pair_eq, hn] at h2
    exact h2.trans (b₂_at (A5 m d) 0 n)
  erw [pair_eq, pair_eq, hn, outBlock_at] at h1
  refine Eq.trans h1 ?_
  rw [Reference.result, Reference.outLayer_at, hv']
  refine congrArg (· + _) (Finset.sum_congr rfl fun k _ => ?_)
  rw [hu', hidden_eq (A0 m d) (A1 m d) (A2 m d) (A3 m d) (h d) i k]

end Cert.Proof.KernelIdeal

namespace Cert.Proof

open Idealize.ShloMosaic Idealize.SL.Sem

/-- From memories that agree on the arguments, the kernel and the reference leave one and the same result. -/
theorem value : Cert.algebraic_KernelIdeal_ReferenceIdeal := fun m g m' g' hp he => by
  haveI : ∀ e, Nonempty (Elt Ideal e) := fun e => by cases e <;> exact ⟨0⟩
  have hok := preOK_ideal m hp
  refine ⟨fun c => Reference.result (KernelIdeal.A0 m c) (KernelIdeal.A1 m c) (KernelIdeal.A2 m c) (KernelIdeal.A3 m c)
    (KernelIdeal.A4 m c) (KernelIdeal.A5 m c), ?_, ?_⟩
  · refine (θ_run (Cert.KernelIdeal.defs (F := Ideal)) (Cert.KernelIdeal.threads (F := Ideal)) ⟨m, fun _ => 0, g⟩).mono
      (fun r hq c => ?_) (KernelIdeal.run_main m g hok)
    obtain ⟨h0, h1, h2, h3, h4, h5, hr⟩ := hq.1 c
    exact ⟨KernelIdeal.result_eq m hok c _ hr, h0, h1, h2, h3, h4, h5⟩
  · refine (θ_run (Cert.ReferenceIdeal.defs (F := Ideal)) (onTc (τ := Cert.ReferenceIdeal.τ) (Cert.ReferenceIdeal.main (F := Ideal)))
      ⟨m', fun _ => 0, g'⟩).mono (fun r hq c => ?_) (Reference.run_result m' g')
    obtain ⟨hv, ha⟩ := hq c
    obtain ⟨e0, e1, e2, e3, e4, e5⟩ := he c
    refine ⟨?_, ha⟩
    rw [hv, e0, e1, e2, e3, e4, e5]

end Cert.Proof

end
-- ==== Proof.lean ====
module

public import proofs.«01_k».proof.Proof.Value

@[expose] public section

noncomputable section

namespace Cert.Proof

/-- The claim: the frames of the kernel and of the reference, and that the two leave the same result. -/
theorem claim : Cert.Claim := ⟨Cert.Kernel.Gen.facts, Cert.KernelIdeal.Gen.facts, Cert.ReferenceIdeal.Gen.facts, Cert.Pre_in_range.Gen.facts,
  frame_kernel, frame_ideal, frame_reference, frame_reference_in_range, trivial, value⟩

end Cert.Proof

end
